-- ==== Defs.lean ====
def Pre_Kernel [hPre_ragged : Cert.Pre_ragged.Facts] (m : (ℓ : Loc Cert.Kernel.nD Cert.Kernel.τ Cert.Kernel.sig) → Buf (Elt Bits) ℓ) : Prop :=
  ∀ c : Dev Cert.Kernel.nD,
    (Cert.Pre_ragged.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ragged : Cert.Pre_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ragged [hPre_ragged : Cert.Pre_ragged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_ragged : Cert.Pre_ragged.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ragged [hReferenceIdeal : Cert.ReferenceIdeal.Facts] [hPre_ragged : Cert.Pre_ragged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ragged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ragged : Cert.Pre_ragged.Facts),
    quiescent_Kernel (hKernel := hKernel) (hPre_ragged := hPre_ragged)
    ∧ quiescent_KernelIdeal (hKernelIdeal := hKernelIdeal) (hPre_ragged := hPre_ragged)
    ∧ quiescent_ReferenceIdeal (hReferenceIdeal := hReferenceIdeal)
    ∧ quiescent_ReferenceIdeal_pre_ragged (hReferenceIdeal := hReferenceIdeal) (hPre_ragged := hPre_ragged)
    ∧ preserves_Kernel_KernelIdeal
    ∧ algebraic_KernelIdeal_ReferenceIdeal (hKernelIdeal := hKernelIdeal) (hReferenceIdeal := hReferenceIdeal) (hPre_ragged := hPre_ragged)
-- ==== Pre_ragged.lean ====
abbrev S4096x8x64 : Shape := ⟨3, ![4096, 8, 64]⟩
abbrev S17 : Shape := ⟨1, ![17]⟩
abbrev S16 : Shape := ⟨1, ![16]⟩
abbrev S1 : Shape := ⟨1, ![1]⟩
abbrev S_ : Shape := ⟨0, ![]⟩

class Facts : Prop where
  slices_S17_S16_1 : S17.Slices ![1] S16
  slices_S17_S16_0 : S17.Slices ![0] S16
  slices_S17_S1_0 : S17.Slices ![0] S1
  bcast_S_S1 : S_.BroadcastsInDim S1 (![] : Fin 0 → Fin S1.rank)
  bcast_S_S16 : S_.BroadcastsInDim S16 (![] : Fin 0 → Fin S16.rank)
  concatenates_S1_S16_S17_d0 : Shape.Concatenates [S1, S16] S17 0

variable [Facts]

def fn {F : FTy → Type} [FloatOps F] (main_arg0 : FVec F S4096x8x64 .f32) (main_arg1 : FVec F S4096x8x64 .f32) (main_arg2 : FVec F S4096x8x64 .f32) (main_arg3 : IVec S17 32) (main_arg4 : IVec S16 32) : IVec S17 1 :=
  let main_v0 : IVec S16 32 := (extractStridedSlice S16 ![1] · slices_S17_S16_1) main_arg3
  let main_v1 : IVec S16 32 := (extractStridedSlice S16 ![0] · slices_S17_S16_0) main_arg3
  let main_v2 : IVec S16 32 := subi main_v0 main_v1
  let main_v3 : IVec S1 32 := (extractStridedSlice S1 ![0] · slices_S17_S1_0) main_arg3
  let main_c : IVec S_ 32 := constantI S_ 32 0#32
  let main_v4 : IVec S1 32 := broadcastInDim S1 ![] bcast_S_S1 main_c
  let main_v5 : IVec S1 1 := cmpi .eq main_v3 main_v4
  let main_c_0 : IVec S_ 32 := constantI S_ 32 0#32
  let main_v6 : IVec S16 32 := broadcastInDim S16 ![] bcast_S_S16 main_c_0
  let main_v7 : IVec S16 1 := cmpi .sge main_v2 main_v6
  let main_c_1 : IVec S_ 32 := constantI S_ 32 384#32
  let main_v8 : IVec S16 32 := broadcastInDim S16 ![] bcast_S_S16 main_c_1
  let main_v9 : IVec S16 1 := cmpi .sle main_v2 main_v8
  let main_v10 : IVec S16 1 := andi main_v7 main_v9
  let main_v11 : IVec S17 1 := (fun a b => concatenate S17 0 [⟨S1, a⟩, ⟨S16, b⟩] concatenates_S1_S16_S17_d0) main_v5 main_v10
  main_v11
-- ==== Kernel.lean ====
abbrev S4096x8x64 : Shape := ⟨3, ![4096, 8, 64]⟩
abbrev S17 : Shape := ⟨1, ![17]⟩
abbrev S16 : Shape := ⟨1, ![16]⟩
abbrev S8x4096x64 : Shape := ⟨3, ![8, 4096, 64]⟩
abbrev S128x8x64 : Shape := ⟨3, ![128, 8, 64]⟩
abbrev S32x512 : Shape := ⟨2, ![32, 512]⟩
abbrev S128x32 : Shape := ⟨2, ![128, 32]⟩
abbrev S1 : Shape := ⟨1, ![1]⟩
abbrev S128 : Shape := ⟨1, ![128]⟩
abbrev S128x1 : Shape := ⟨2, ![128, 1]⟩
abbrev S1x512 : Shape := ⟨2, ![1, 512]⟩
abbrev S1x128 : Shape := ⟨2, ![1, 128]⟩
abbrev S128x128 : Shape := ⟨2, ![128, 128]⟩
abbrev S128x1x64 : Shape := ⟨3, ![128, 1, 64]⟩
abbrev S128x64 : Shape := ⟨2, ![128, 64]⟩
abbrev S1x128x64 : Shape := ⟨3, ![1, 128, 64]⟩
abbrev S1x256 : Shape := ⟨2, ![1, 256]⟩
abbrev S128x256 : Shape := ⟨2, ![128, 256]⟩
abbrev S1x256x64 : Shape := ⟨3, ![1, 256, 64]⟩
abbrev S256x64 : Shape := ⟨2, ![256, 64]⟩
abbrev S1x384 : Shape := ⟨2, ![1, 384]⟩
abbrev S128x384 : Shape := ⟨2, ![128, 384]⟩
abbrev S1x384x64 : Shape := ⟨3, ![1, 384, 64]⟩
abbrev S384x64 : Shape := ⟨2, ![384, 64]⟩
abbrev S128x512 : Shape := ⟨2, ![128, 512]⟩
abbrev S1x512x64 : Shape := ⟨3, ![1, 512, 64]⟩
abbrev S512x64 : Shape := ⟨2, ![512, 64]⟩

abbrev nBuf : Space → Nat
  | .hbm => 6
  | .vmem => 10
  | .smem => 2
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S8x4096x64, .f32⟩
  | .hbm, ⟨4, _⟩ => ⟨S8x4096x64, .f32⟩
  | .hbm, ⟨5, _⟩ => ⟨S4096x8x64, .f32⟩
  | .local _ .vmem, ⟨0, _⟩ => ⟨S128x8x64, .f32⟩
  | .local _ .vmem, ⟨1, _⟩ => ⟨S128x8x64, .f32⟩
  | .local _ .vmem, ⟨2, _⟩ => ⟨S8x4096x64, .f32⟩
  | .local _ .vmem, ⟨3, _⟩ => ⟨S8x4096x64, .f32⟩
  | .local _ .vmem, ⟨4, _⟩ => ⟨S128x8x64, .f32⟩
  | .local _ .vmem, ⟨5, _⟩ => ⟨S128x8x64, .f32⟩
  | .local _ .vmem, ⟨6, _⟩ => ⟨S32x512, .i32⟩
  | .local _ .vmem, ⟨7, _⟩ => ⟨S32x512, .i32⟩
  | .local _ .vmem, ⟨8, _⟩ => ⟨S128x32, .i32⟩
  | .local _ .vmem, ⟨9, _⟩ => ⟨S128x32, .i32⟩
  | .local _ .smem, ⟨0, _⟩ => ⟨S17, .i32⟩
  | .local _ .smem, ⟨1, _⟩ => ⟨S16, .i32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let c0_i32_46 : BitVec 32 := 0#32
  let v169 : BitVec 32 := Scalar.subi arg0 c0_i32_46
  let v170 : Index := Scalar.indexCast v169
  let c0_47 : Index := 0#32
  ![v170.toNat, 0]
def k0_off2 (i : grid0.Coords) : Fin 3 → Nat :=
  let c0_56 : Index := 0#32
  let arg0 : BitVec 32 := BitVec.ofNat 32 (i 0).val
  let c0_i32_46 : BitVec 32 := 0#32
  let v169 : BitVec 32 := Scalar.subi arg0 c0_i32_46
  let c128_i32_55 : BitVec 32 := 128#32
  let v199 : BitVec 32 := Scalar.muli v169 c128_i32_55
  let v200 : Index := Scalar.indexCast v199
  let c0_57 : Index := 0#32
  ![0, v200.toNat, 0]
def k0_off3 (i : grid0.Coords) : Fin 3 → Nat :=
  let c1_71 : Index := 1#32
  let arg0 : BitVec 32 := BitVec.ofNat 32 (i 0).val
  let c0_i32_46 : BitVec 32 := 0#32
  let v169 : BitVec 32 := Scalar.subi arg0 c0_i32_46
  let c128_i32_70 : BitVec 32 := 128#32
  let v219 : BitVec 32 := Scalar.muli v169 c128_i32_70
  let v220 : Index := Scalar.indexCast v219
  let c0_72 : Index := 0#32
  ![1, v220.toNat, 0]
def k0_off4 (i : grid0.Coords) : Fin 3 → Nat :=
  let c2_86 : Index := 2#32
  let arg0 : BitVec 32 := BitVec.ofNat 32 (i 0).val
  let c0_i32_46 : BitVec 32 := 0#32
  let v169 : BitVec 32 := Scalar.subi arg0 c0_i32_46
  let c128_i32_85 : BitVec 32 := 128#32
  let v239 : BitVec 32 := Scalar.muli v169 c128_i32_85
  let v240 : Index := Scalar.indexCast v239
  let c0_87 : Index := 0#32
  ![2, v240.toNat, 0]
def k0_off5 (i : grid0.Coords) : Fin 3 → Nat :=
  let c3_101 : Index := 3#32
  let arg0 : BitVec 32 := BitVec.ofNat 32 (i 0).val
  let c0_i32_46 : BitVec 32 := 0#32
  let v169 : BitVec 32 := Scalar.subi arg0 c0_i32_46
  let c128_i32_100 : BitVec 32 := 128#32
  let v259 : BitVec 32 := Scalar.muli v169 c128_i32_100
  let v260 : Index := Scalar.indexCast v259
  let c0_102 : Index := 0#32
  ![3, v260.toNat, 0]
def k0_off6 (i : grid0.Coords) : Fin 3 → Nat :=
  let c4_116 : Index := 4#32
  let arg0 : BitVec 32 := BitVec.ofNat 32 (i 0).val
  let c0_i32_46 : BitVec 32 := 0#32
  let v169 : BitVec 32 := Scalar.subi arg0 c0_i32_46
  let c128_i32_115 : BitVec 32 := 128#32
  let v279 : BitVec 32 := Scalar.muli v169 c128_i32_115
  let v280 : Index := Scalar.indexCast v279
  let c0_117 : Index := 0#32
  ![4, v280.toNat, 0]
def k0_off7 (i : grid0.Coords) : Fin 3 → Nat :=
  let c5_131 : Index := 5#32
  let arg0 : BitVec 32 := BitVec.ofNat 32 (i 0).val
  let c0_i32_46 : BitVec 32 := 0#32
  let v169 : BitVec 32 := Scalar.subi arg0 c0_i32_46
  let c128_i32_130 : BitVec 32 := 128#32
  let v299 : BitVec 32 := Scalar.muli v169 c128_i32_130
  let v300 : Index := Scalar.indexCast v299
  let c0_132 : Index := 0#32
  ![5, v300.toNat, 0]
def k0_off8 (i : grid0.Coords) : Fin 3 → Nat :=
  let c6_146 : Index := 6#32
  let arg0 : BitVec 32 := BitVec.ofNat 32 (i 0).val
  let c0_i32_46 : BitVec 32 := 0#32
  let v169 : BitVec 32 := Scalar.subi arg0 c0_i32_46
  let c128_i32_145 : BitVec 32 := 128#32
  let v319 : BitVec 32 := Scalar.muli v169 c128_i32_145
  let v320 : Index := Scalar.indexCast v319
  let c0_147 : Index := 0#32
  ![6, v320.toNat, 0]
def k0_off9 (i : grid0.Coords) : Fin 3 → Nat :=
  let c7_161 : Index := 7#32
  let arg0 : BitVec 32 := BitVec.ofNat 32 (i 0).val
  let c0_i32_46 : BitVec 32 := 0#32
  let v169 : BitVec 32 := Scalar.subi arg0 c0_i32_46
  let c128_i32_160 : BitVec 32 := 128#32
  let v339 : BitVec 32 := Scalar.muli v169 c128_i32_160
  let v340 : Index := Scalar.indexCast v339
  let c0_162 : Index := 0#32
  ![7, v340.toNat, 0]
def k0_off10 (i : grid0.Coords) : Fin 2 → Nat :=
  let arg0 : BitVec 32 := BitVec.ofNat 32 (i 0).val
  let c1_i32_46 : BitVec 32 := 1#32
  let v169 : BitVec 32 := Scalar.subi arg0 c1_i32_46
  let v170 : Index := Scalar.indexCast v169
  let c0_47 : Index := 0#32
  ![v170.toNat, 0]
def k0_cond4 (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) : BitVec 1 :=
  let c0_i32_8 : BitVec 32 := 0#32
  let arg0 : BitVec 32 := BitVec.ofNat 32 (i 0).val
  let c128_i32_7 : BitVec 32 := 128#32
  let v20 : BitVec 32 := Scalar.muli arg0 c128_i32_7
  let v22 : BitVec 1 := Scalar.cmpi .sle v21 v20
  let v23 : BitVec 32 := Scalar.extui v22
  let v24 : BitVec 32 := Scalar.addi c0_i32_8 v23
  let v26 : BitVec 1 := Scalar.cmpi .sle v25 v20
  let v27 : BitVec 32 := Scalar.extui v26
  let v28 : BitVec 32 := Scalar.addi v24 v27
  let v30 : BitVec 1 := Scalar.cmpi .sle v29 v20
  let v31 : BitVec 32 := Scalar.extui v30
  let v32 : BitVec 32 := Scalar.addi v28 v31
  let v34 : BitVec 1 := Scalar.cmpi .sle v33 v20
  let v35 : BitVec 32 := Scalar.extui v34
  let v36 : BitVec 32 := Scalar.addi v32 v35
  let v38 : BitVec 1 := Scalar.cmpi .sle v37 v20
  let v39 : BitVec 32 := Scalar.extui v38
  let v40 : BitVec 32 := Scalar.addi v36 v39
  let v42 : BitVec 1 := Scalar.cmpi .sle v41 v20
  let v43 : BitVec 32 := Scalar.extui v42
  let v44 : BitVec 32 := Scalar.addi v40 v43
  let v46 : BitVec 1 := Scalar.cmpi .sle v45 v20
  let v47 : BitVec 32 := Scalar.extui v46
  let v48 : BitVec 32 := Scalar.addi v44 v47
  let v50 : BitVec 1 := Scalar.cmpi .sle v49 v20
  let v51 : BitVec 32 := Scalar.extui v50
  let v52 : BitVec 32 := Scalar.addi v48 v51
  let v54 : BitVec 1 := Scalar.cmpi .sle v53 v20
  let v55 : BitVec 32 := Scalar.extui v54
  let v56 : BitVec 32 := Scalar.addi v52 v55
  let v58 : BitVec 1 := Scalar.cmpi .sle v57 v20
  let v59 : BitVec 32 := Scalar.extui v58
  let v60 : BitVec 32 := Scalar.addi v56 v59
  let v62 : BitVec 1 := Scalar.cmpi .sle v61 v20
  let v63 : BitVec 32 := Scalar.extui v62
  let v64 : BitVec 32 := Scalar.addi v60 v63
  let v66 : BitVec 1 := Scalar.cmpi .sle v65 v20
  let v67 : BitVec 32 := Scalar.extui v66
  let v68 : BitVec 32 := Scalar.addi v64 v67
  let v70 : BitVec 1 := Scalar.cmpi .sle v69 v20
  let v71 : BitVec 32 := Scalar.extui v70
  let v72 : BitVec 32 := Scalar.addi v68 v71
  let v74 : BitVec 1 := Scalar.cmpi .sle v73 v20
  let v75 : BitVec 32 := Scalar.extui v74
  let v76 : BitVec 32 := Scalar.addi v72 v75
  let v78 : BitVec 1 := Scalar.cmpi .sle v77 v20
  let v79 : BitVec 32 := Scalar.extui v78
  let v80 : BitVec 32 := Scalar.addi v76 v79
  let v82 : BitVec 1 := Scalar.cmpi .sle v81 v20
  let v83 : BitVec 32 := Scalar.extui v82
  let v84 : BitVec 32 := Scalar.addi v80 v83
  let c16_i32 : BitVec 32 := 16#32
  let v133 : BitVec 1 := Scalar.cmpi .slt v84 c16_i32
  let c15_i32 : BitVec 32 := 15#32
  let v130 : BitVec 1 := Scalar.cmpi .eq v84 c15_i32
  let c14_i32 : BitVec 32 := 14#32
  let v127 : BitVec 1 := Scalar.cmpi .eq v84 c14_i32
  let c13_i32 : BitVec 32 := 13#32
  let v124 : BitVec 1 := Scalar.cmpi .eq v84 c13_i32
  let c12_i32 : BitVec 32 := 12#32
  let v121 : BitVec 1 := Scalar.cmpi .eq v84 c12_i32
  let c11_i32 : BitVec 32 := 11#32
  let v118 : BitVec 1 := Scalar.cmpi .eq v84 c11_i32
  let c10_i32 : BitVec 32 := 10#32
  let v115 : BitVec 1 := Scalar.cmpi .eq v84 c10_i32
  let c9_i32 : BitVec 32 := 9#32
  let v112 : BitVec 1 := Scalar.cmpi .eq v84 c9_i32
  let c8_i32 : BitVec 32 := 8#32
  let v109 : BitVec 1 := Scalar.cmpi .eq v84 c8_i32
  let c7_i32 : BitVec 32 := 7#32
  let v106 : BitVec 1 := Scalar.cmpi .eq v84 c7_i32
  let c6_i32 : BitVec 32 := 6#32
  let v103 : BitVec 1 := Scalar.cmpi .eq v84 c6_i32
  let c5_i32 : BitVec 32 := 5#32
  let v100 : BitVec 1 := Scalar.cmpi .eq v84 c5_i32
  let c4_i32 : BitVec 32 := 4#32
  let v97 : BitVec 1 := Scalar.cmpi .eq v84 c4_i32
  let c3_i32 : BitVec 32 := 3#32
  let v94 : BitVec 1 := Scalar.cmpi .eq v84 c3_i32
  let c2_i32 : BitVec 32 := 2#32
  let v91 : BitVec 1 := Scalar.cmpi .eq v84 c2_i32
  let c1_i32 : BitVec 32 := 1#32
  let v88 : BitVec 1 := Scalar.cmpi .eq v84 c1_i32
  let c0_i32_9 : BitVec 32 := 0#32
  let v85 : BitVec 1 := Scalar.cmpi .eq v84 c0_i32_9
  let c0_i32_11 : BitVec 32 := 0#32
  let v87 : BitVec 32 := Scalar.select v85 v86 c0_i32_11
  let v90 : BitVec 32 := Scalar.select v88 v89 v87
  let v93 : BitVec 32 := Scalar.select v91 v92 v90
  let v96 : BitVec 32 := Scalar.select v94 v95 v93
  let v99 : BitVec 32 := Scalar.select v97 v98 v96
  let v102 : BitVec 32 := Scalar.select v100 v101 v99
  let v105 : BitVec 32 := Scalar.select v103 v104 v102
  let v108 : BitVec 32 := Scalar.select v106 v107 v105
  let v111 : BitVec 32 := Scalar.select v109 v110 v108
  let v114 : BitVec 32 := Scalar.select v112 v113 v111
  let v117 : BitVec 32 := Scalar.select v115 v116 v114
  let v120 : BitVec 32 := Scalar.select v118 v119 v117
  let v123 : BitVec 32 := Scalar.select v121 v122 v120
  let v126 : BitVec 32 := Scalar.select v124 v125 v123
  let v129 : BitVec 32 := Scalar.select v127 v128 v126
  let v132 : BitVec 32 := Scalar.select v130 v131 v129
  let c0_i32_28 : BitVec 32 := 0#32
  let v135 : BitVec 1 := Scalar.cmpi .sgt v132 c0_i32_28
  let v136 : BitVec 32 := Scalar.extui v135
  let c0_i32_29 : BitVec 32 := 0#32
  let v137 : BitVec 1 := Scalar.cmpi .slt v132 c0_i32_29
  let v138 : BitVec 32 := Scalar.extui v137
  let v139 : BitVec 32 := Scalar.subi v136 v138
  let c128_i32_27 : BitVec 32 := 128#32
  let c0_i32_30 : BitVec 32 := 0#32
  let v140 : BitVec 1 := Scalar.cmpi .sgt c128_i32_27 c0_i32_30
  let v141 : BitVec 32 := Scalar.extui v140
  let c0_i32_31 : BitVec 32 := 0#32
  let v142 : BitVec 1 := Scalar.cmpi .slt c128_i32_27 c0_i32_31
  let v143 : BitVec 32 := Scalar.extui v142
  let v144 : BitVec 32 := Scalar.subi v141 v143
  let v145 : BitVec 1 := Scalar.cmpi .ne v139 v144
  let v146 : BitVec 32 := Scalar.remsi v132 c128_i32_27
  let c0_i32_32 : BitVec 32 := 0#32
  let v147 : BitVec 1 := Scalar.cmpi .ne v146 c0_i32_32
  let v148 : BitVec 1 := Scalar.andi v145 v147
  let v134 : BitVec 32 := Scalar.divsi v132 c128_i32_27
  let c1_i32_33 : BitVec 32 := 1#32
  let v149 : BitVec 32 := Scalar.subi v134 c1_i32_33
  let v150 : BitVec 32 := Scalar.select v148 v149 v134
  let v151 : BitVec 32 := Scalar.subi arg0 v150
  let c1_i32_34 : BitVec 32 := 1#32
  let v152 : BitVec 32 := Scalar.addi v151 c1_i32_34
  let c0_i32_35 : BitVec 32 := 0#32
  let v153 : BitVec 32 := Scalar.select v133 v152 c0_i32_35
  let c2_i32_40 : BitVec 32 := 2#32
  let v160 : BitVec 1 := Scalar.cmpi .eq v153 c2_i32_40
  let v161 : BitVec 32 := Scalar.extui v160
  let c0_i32_41 : BitVec 32 := 0#32
  let v162 : BitVec 1 := Scalar.cmpi .ne v161 c0_i32_41
  v162

def k0_off11 (i : grid0.Coords) : Fin 3 → Nat :=
  let c0_56 : Index := 0#32
  let arg0 : BitVec 32 := BitVec.ofNat 32 (i 0).val
  let c1_i32_46 : BitVec 32 := 1#32
  let v169 : BitVec 32 := Scalar.subi arg0 c1_i32_46
  let c128_i32_55 : BitVec 32 := 128#32
  let v199 : BitVec 32 := Scalar.muli v169 c128_i32_55
  let v200 : Index := Scalar.indexCast v199
  let c0_57 : Index := 0#32
  ![0, v200.toNat, 0]
def k0_off12 (i : grid0.Coords) : Fin 3 → Nat :=
  let c1_71 : Index := 1#32
  let arg0 : BitVec 32 := BitVec.ofNat 32 (i 0).val
  let c1_i32_46 : BitVec 32 := 1#32
  let v169 : BitVec 32 := Scalar.subi arg0 c1_i32_46
  let c128_i32_70 : BitVec 32 := 128#32
  let v219 : BitVec 32 := Scalar.muli v169 c128_i32_70
  let v220 : Index := Scalar.indexCast v219
  let c0_72 : Index := 0#32
  ![1, v220.toNat, 0]
def k0_off13 (i : grid0.Coords) : Fin 3 → Nat :=
  let c2_86 : Index := 2#32
  let arg0 : BitVec 32 := BitVec.ofNat 32 (i 0).val
  let c1_i32_46 : BitVec 32 := 1#32
  let v169 : BitVec 32 := Scalar.subi arg0 c1_i32_46
  let c128_i32_85 : BitVec 32 := 128#32
  let v239 : BitVec 32 := Scalar.muli v169 c128_i32_85
  let v240 : Index := Scalar.indexCast v239
  let c0_87 : Index := 0#32
  ![2, v240.toNat, 0]
def k0_off14 (i : grid0.Coords) : Fin 3 → Nat :=
  let c3_101 : Index := 3#32
  let arg0 : BitVec 32 := BitVec.ofNat 32 (i 0).val
  let c1_i32_46 : BitVec 32 := 1#32
  let v169 : BitVec 32 := Scalar.subi arg0 c1_i32_46
  let c128_i32_100 : BitVec 32 := 128#32
  let v259 : BitVec 32 := Scalar.muli v169 c128_i32_100
  let v260 : Index := Scalar.indexCast v259
  let c0_102 : Index := 0#32
  ![3, v260.toNat, 0]
def k0_off15 (i : grid0.Coords) : Fin 3 → Nat :=
  let c4_116 : Index := 4#32
  let arg0 : BitVec 32 := BitVec.ofNat 32 (i 0).val
  let c1_i32_46 : BitVec 32 := 1#32
  let v169 : BitVec 32 := Scalar.subi arg0 c1_i32_46
  let c128_i32_115 : BitVec 32 := 128#32
  let v279 : BitVec 32 := Scalar.muli v169 c128_i32_115
  let v280 : Index := Scalar.indexCast v279
  let c0_117 : Index := 0#32
  ![4, v280.toNat, 0]
def k0_off16 (i : grid0.Coords) : Fin 3 → Nat :=
  let c5_131 : Index := 5#32
  let arg0 : BitVec 32 := BitVec.ofNat 32 (i 0).val
  let c1_i32_46 : BitVec 32 := 1#32
  let v169 : BitVec 32 := Scalar.subi arg0 c1_i32_46
  let c128_i32_130 : BitVec 32 := 128#32
  let v299 : BitVec 32 := Scalar.muli v169 c128_i32_130
  let v300 : Index := Scalar.indexCast v299
  let c0_132 : Index := 0#32
  ![5, v300.toNat, 0]
def k0_off17 (i : grid0.Coords) : Fin 3 → Nat :=
  let c6_146 : Index := 6#32
  let arg0 : BitVec 32 := BitVec.ofNat 32 (i 0).val
  let c1_i32_46 : BitVec 32 := 1#32
  let v169 : BitVec 32 := Scalar.subi arg0 c1_i32_46
  let c128_i32_145 : BitVec 32 := 128#32
  let v319 : BitVec 32 := Scalar.muli v169 c128_i32_145
  let v320 : Index := Scalar.indexCast v319
  let c0_147 : Index := 0#32
  ![6, v320.toNat, 0]
def k0_off18 (i : grid0.Coords) : Fin 3 → Nat :=
  let c7_161 : Index := 7#32
  let arg0 : BitVec 32 := BitVec.ofNat 32 (i 0).val
  let c1_i32_46 : BitVec 32 := 1#32
  let v169 : BitVec 32 := Scalar.subi arg0 c1_i32_46
  let c128_i32_160 : BitVec 32 := 128#32
  let v339 : BitVec 32 := Scalar.muli v169 c128_i32_160
  let v340 : Index := Scalar.indexCast v339
  let c0_162 : Index := 0#32
  ![7, v340.toNat, 0]
def k0_off19 (i : grid0.Coords) : Fin 2 → Nat :=
  let arg0 : BitVec 32 := BitVec.ofNat 32 (i 0).val
  let c2_i32_46 : BitVec 32 := 2#32
  let v169 : BitVec 32 := Scalar.subi arg0 c2_i32_46
  let v170 : Index := Scalar.indexCast v169
  let c0_47 : Index := 0#32
  ![v170.toNat, 0]
def k0_cond5 (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) : BitVec 1 :=
  let c0_i32_8 : BitVec 32 := 0#32
  let arg0 : BitVec 32 := BitVec.ofNat 32 (i 0).val
  let c128_i32_7 : BitVec 32 := 128#32
  let v20 : BitVec 32 := Scalar.muli arg0 c128_i32_7
  let v22 : BitVec 1 := Scalar.cmpi .sle v21 v20
  let v23 : BitVec 32 := Scalar.extui v22
  let v24 : BitVec 32 := Scalar.addi c0_i32_8 v23
  let v26 : BitVec 1 := Scalar.cmpi .sle v25 v20
  let v27 : BitVec 32 := Scalar.extui v26
  let v28 : BitVec 32 := Scalar.addi v24 v27
  let v30 : BitVec 1 := Scalar.cmpi .sle v29 v20
  let v31 : BitVec 32 := Scalar.extui v30
  let v32 : BitVec 32 := Scalar.addi v28 v31
  let v34 : BitVec 1 := Scalar.cmpi .sle v33 v20
  let v35 : BitVec 32 := Scalar.extui v34
  let v36 : BitVec 32 := Scalar.addi v32 v35
  let v38 : BitVec 1 := Scalar.cmpi .sle v37 v20
  let v39 : BitVec 32 := Scalar.extui v38
  let v40 : BitVec 32 := Scalar.addi v36 v39
  let v42 : BitVec 1 := Scalar.cmpi .sle v41 v20
  let v43 : BitVec 32 := Scalar.extui v42
  let v44 : BitVec 32 := Scalar.addi v40 v43
  let v46 : BitVec 1 := Scalar.cmpi .sle v45 v20
  let v47 : BitVec 32 := Scalar.extui v46
  let v48 : BitVec 32 := Scalar.addi v44 v47
  let v50 : BitVec 1 := Scalar.cmpi .sle v49 v20
  let v51 : BitVec 32 := Scalar.extui v50
  let v52 : BitVec 32 := Scalar.addi v48 v51
  let v54 : BitVec 1 := Scalar.cmpi .sle v53 v20
  let v55 : BitVec 32 := Scalar.extui v54
  let v56 : BitVec 32 := Scalar.addi v52 v55
  let v58 : BitVec 1 := Scalar.cmpi .sle v57 v20
  let v59 : BitVec 32 := Scalar.extui v58
  let v60 : BitVec 32 := Scalar.addi v56 v59
  let v62 : BitVec 1 := Scalar.cmpi .sle v61 v20
  let v63 : BitVec 32 := Scalar.extui v62
  let v64 : BitVec 32 := Scalar.addi v60 v63
  let v66 : BitVec 1 := Scalar.cmpi .sle v65 v20
  let v67 : BitVec 32 := Scalar.extui v66
  let v68 : BitVec 32 := Scalar.addi v64 v67
  let v70 : BitVec 1 := Scalar.cmpi .sle v69 v20
  let v71 : BitVec 32 := Scalar.extui v70
  let v72 : BitVec 32 := Scalar.addi v68 v71
  let v74 : BitVec 1 := Scalar.cmpi .sle v73 v20
  let v75 : BitVec 32 := Scalar.extui v74
  let v76 : BitVec 32 := Scalar.addi v72 v75
  let v78 : BitVec 1 := Scalar.cmpi .sle v77 v20
  let v79 : BitVec 32 := Scalar.extui v78
  let v80 : BitVec 32 := Scalar.addi v76 v79
  let v82 : BitVec 1 := Scalar.cmpi .sle v81 v20
  let v83 : BitVec 32 := Scalar.extui v82
  let v84 : BitVec 32 := Scalar.addi v80 v83
  let c16_i32 : BitVec 32 := 16#32
  let v133 : BitVec 1 := Scalar.cmpi .slt v84 c16_i32
  let c15_i32 : BitVec 32 := 15#32
  let v130 : BitVec 1 := Scalar.cmpi .eq v84 c15_i32
  let c14_i32 : BitVec 32 := 14#32
  let v127 : BitVec 1 := Scalar.cmpi .eq v84 c14_i32
  let c13_i32 : BitVec 32 := 13#32
  let v124 : BitVec 1 := Scalar.cmpi .eq v84 c13_i32
  let c12_i32 : BitVec 32 := 12#32
  let v121 : BitVec 1 := Scalar.cmpi .eq v84 c12_i32
  let c11_i32 : BitVec 32 := 11#32
  let v118 : BitVec 1 := Scalar.cmpi .eq v84 c11_i32
  let c10_i32 : BitVec 32 := 10#32
  let v115 : BitVec 1 := Scalar.cmpi .eq v84 c10_i32
  let c9_i32 : BitVec 32 := 9#32
  let v112 : BitVec 1 := Scalar.cmpi .eq v84 c9_i32
  let c8_i32 : BitVec 32 := 8#32
  let v109 : BitVec 1 := Scalar.cmpi .eq v84 c8_i32
  let c7_i32 : BitVec 32 := 7#32
  let v106 : BitVec 1 := Scalar.cmpi .eq v84 c7_i32
  let c6_i32 : BitVec 32 := 6#32
  let v103 : BitVec 1 := Scalar.cmpi .eq v84 c6_i32
  let c5_i32 : BitVec 32 := 5#32
  let v100 : BitVec 1 := Scalar.cmpi .eq v84 c5_i32
  let c4_i32 : BitVec 32 := 4#32
  let v97 : BitVec 1 := Scalar.cmpi .eq v84 c4_i32
  let c3_i32 : BitVec 32 := 3#32
  let v94 : BitVec 1 := Scalar.cmpi .eq v84 c3_i32
  let c2_i32 : BitVec 32 := 2#32
  let v91 : BitVec 1 := Scalar.cmpi .eq v84 c2_i32
  let c1_i32 : BitVec 32 := 1#32
  let v88 : BitVec 1 := Scalar.cmpi .eq v84 c1_i32
  let c0_i32_9 : BitVec 32 := 0#32
  let v85 : BitVec 1 := Scalar.cmpi .eq v84 c0_i32_9
  let c0_i32_11 : BitVec 32 := 0#32
  let v87 : BitVec 32 := Scalar.select v85 v86 c0_i32_11
  let v90 : BitVec 32 := Scalar.select v88 v89 v87
  let v93 : BitVec 32 := Scalar.select v91 v92 v90
  let v96 : BitVec 32 := Scalar.select v94 v95 v93
  let v99 : BitVec 32 := Scalar.select v97 v98 v96
  let v102 : BitVec 32 := Scalar.select v100 v101 v99
  let v105 : BitVec 32 := Scalar.select v103 v104 v102
  let v108 : BitVec 32 := Scalar.select v106 v107 v105
  let v111 : BitVec 32 := Scalar.select v109 v110 v108
  let v114 : BitVec 32 := Scalar.select v112 v113 v111
  let v117 : BitVec 32 := Scalar.select v115 v116 v114
  let v120 : BitVec 32 := Scalar.select v118 v119 v117
  let v123 : BitVec 32 := Scalar.select v121 v122 v120
  let v126 : BitVec 32 := Scalar.select v124 v125 v123
  let v129 : BitVec 32 := Scalar.select v127 v128 v126
  let v132 : BitVec 32 := Scalar.select v130 v131 v129
  let c0_i32_28 : BitVec 32 := 0#32
  let v135 : BitVec 1 := Scalar.cmpi .sgt v132 c0_i32_28
  let v136 : BitVec 32 := Scalar.extui v135
  let c0_i32_29 : BitVec 32 := 0#32
  let v137 : BitVec 1 := Scalar.cmpi .slt v132 c0_i32_29
  let v138 : BitVec 32 := Scalar.extui v137
  let v139 : BitVec 32 := Scalar.subi v136 v138
  let c128_i32_27 : BitVec 32 := 128#32
  let c0_i32_30 : BitVec 32 := 0#32
  let v140 : BitVec 1 := Scalar.cmpi .sgt c128_i32_27 c0_i32_30
  let v141 : BitVec 32 := Scalar.extui v140
  let c0_i32_31 : BitVec 32 := 0#32
  let v142 : BitVec 1 := Scalar.cmpi .slt c128_i32_27 c0_i32_31
  let v143 : BitVec 32 := Scalar.extui v142
  let v144 : BitVec 32 := Scalar.subi v141 v143
  let v145 : BitVec 1 := Scalar.cmpi .ne v139 v144
  let v146 : BitVec 32 := Scalar.remsi v132 c128_i32_27
  let c0_i32_32 : BitVec 32 := 0#32
  let v147 : BitVec 1 := Scalar.cmpi .ne v146 c0_i32_32
  let v148 : BitVec 1 := Scalar.andi v145 v147
  let v134 : BitVec 32 := Scalar.divsi v132 c128_i32_27
  let c1_i32_33 : BitVec 32 := 1#32
  let v149 : BitVec 32 := Scalar.subi v134 c1_i32_33
  let v150 : BitVec 32 := Scalar.select v148 v149 v134
  let v151 : BitVec 32 := Scalar.subi arg0 v150
  let c1_i32_34 : BitVec 32 := 1#32
  let v152 : BitVec 32 := Scalar.addi v151 c1_i32_34
  let c0_i32_35 : BitVec 32 := 0#32
  let v153 : BitVec 32 := Scalar.select v133 v152 c0_i32_35
  let c3_i32_42 : BitVec 32 := 3#32
  let v163 : BitVec 1 := Scalar.cmpi .eq v153 c3_i32_42
  let v164 : BitVec 32 := Scalar.extui v163
  let c0_i32_43 : BitVec 32 := 0#32
  let v165 : BitVec 1 := Scalar.cmpi .ne v164 c0_i32_43
  v165

def k0_off20 (i : grid0.Coords) : Fin 3 → Nat :=
  let c0_56 : Index := 0#32
  let arg0 : BitVec 32 := BitVec.ofNat 32 (i 0).val
  let c2_i32_46 : BitVec 32 := 2#32
  let v169 : BitVec 32 := Scalar.subi arg0 c2_i32_46
  let c128_i32_55 : BitVec 32 := 128#32
  let v199 : BitVec 32 := Scalar.muli v169 c128_i32_55
  let v200 : Index := Scalar.indexCast v199
  let c0_57 : Index := 0#32
  ![0, v200.toNat, 0]
def k0_off21 (i : grid0.Coords) : Fin 3 → Nat :=
  let c1_71 : Index := 1#32
  let arg0 : BitVec 32 := BitVec.ofNat 32 (i 0).val
  let c2_i32_46 : BitVec 32 := 2#32
  let v169 : BitVec 32 := Scalar.subi arg0 c2_i32_46
  let c128_i32_70 : BitVec 32 := 128#32
  let v219 : BitVec 32 := Scalar.muli v169 c128_i32_70
  let v220 : Index := Scalar.indexCast v219
  let c0_72 : Index := 0#32
  ![1, v220.toNat, 0]
def k0_off22 (i : grid0.Coords) : Fin 3 → Nat :=
  let c2_86 : Index := 2#32
  let arg0 : BitVec 32 := BitVec.ofNat 32 (i 0).val
  let c2_i32_46 : BitVec 32 := 2#32
  let v169 : BitVec 32 := Scalar.subi arg0 c2_i32_46
  let c128_i32_85 : BitVec 32 := 128#32
  let v239 : BitVec 32 := Scalar.muli v169 c128_i32_85
  let v240 : Index := Scalar.indexCast v239
  let c0_87 : Index := 0#32
  ![2, v240.toNat, 0]
def k0_off23 (i : grid0.Coords) : Fin 3 → Nat :=
  let c3_101 : Index := 3#32
  let arg0 : BitVec 32 := BitVec.ofNat 32 (i 0).val
  let c2_i32_46 : BitVec 32 := 2#32
  let v169 : BitVec 32 := Scalar.subi arg0 c2_i32_46
  let c128_i32_100 : BitVec 32 := 128#32
  let v259 : BitVec 32 := Scalar.muli v169 c128_i32_100
  let v260 : Index := Scalar.indexCast v259
  let c0_102 : Index := 0#32
  ![3, v260.toNat, 0]
def k0_off24 (i : grid0.Coords) : Fin 3 → Nat :=
  let c4_116 : Index := 4#32
  let arg0 : BitVec 32 := BitVec.ofNat 32 (i 0).val
  let c2_i32_46 : BitVec 32 := 2#32
  let v169 : BitVec 32 := Scalar.subi arg0 c2_i32_46
  let c128_i32_115 : BitVec 32 := 128#32
  let v279 : BitVec 32 := Scalar.muli v169 c128_i32_115
  let v280 : Index := Scalar.indexCast v279
  let c0_117 : Index := 0#32
  ![4, v280.toNat, 0]
def k0_off25 (i : grid0.Coords) : Fin 3 → Nat :=
  let c5_131 : Index := 5#32
  let arg0 : BitVec 32 := BitVec.ofNat 32 (i 0).val
  let c2_i32_46 : BitVec 32 := 2#32
  let v169 : BitVec 32 := Scalar.subi arg0 c2_i32_46
  let c128_i32_130 : BitVec 32 := 128#32
  let v299 : BitVec 32 := Scalar.muli v169 c128_i32_130
  let v300 : Index := Scalar.indexCast v299
  let c0_132 : Index := 0#32
  ![5, v300.toNat, 0]
def k0_off26 (i : grid0.Coords) : Fin 3 → Nat :=
  let c6_146 : Index := 6#32
  let arg0 : BitVec 32 := BitVec.ofNat 32 (i 0).val
  let c2_i32_46 : BitVec 32 := 2#32
  let v169 : BitVec 32 := Scalar.subi arg0 c2_i32_46
  let c128_i32_145 : BitVec 32 := 128#32
  let v319 : BitVec 32 := Scalar.muli v169 c128_i32_145
  let v320 : Index := Scalar.indexCast v319
  let c0_147 : Index := 0#32
  ![6, v320.toNat, 0]
def k0_off27 (i : grid0.Coords) : Fin 3 → Nat :=
  let c7_161 : Index := 7#32
  let arg0 : BitVec 32 := BitVec.ofNat 32 (i 0).val
  let c2_i32_46 : BitVec 32 := 2#32
  let v169 : BitVec 32 := Scalar.subi arg0 c2_i32_46
  let c128_i32_160 : BitVec 32 := 128#32
  let v339 : BitVec 32 := Scalar.muli v169 c128_i32_160
  let v340 : Index := Scalar.indexCast v339
  let c0_162 : Index := 0#32
  ![7, v340.toNat, 0]
def k0_off28 (i : grid0.Coords) : Fin 2 → Nat :=
  let arg0 : BitVec 32 := BitVec.ofNat 32 (i 0).val
  let c3_i32_46 : BitVec 32 := 3#32
  let v169 : BitVec 32 := Scalar.subi arg0 c3_i32_46
  let v170 : Index := Scalar.indexCast v169
  let c0_47 : Index := 0#32
  ![v170.toNat, 0]
def k0_cond6 (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) : BitVec 1 :=
  let c0_i32_8 : BitVec 32 := 0#32
  let arg0 : BitVec 32 := BitVec.ofNat 32 (i 0).val
  let c128_i32_7 : BitVec 32 := 128#32
  let v20 : BitVec 32 := Scalar.muli arg0 c128_i32_7
  let v22 : BitVec 1 := Scalar.cmpi .sle v21 v20
  let v23 : BitVec 32 := Scalar.extui v22
  let v24 : BitVec 32 := Scalar.addi c0_i32_8 v23
  let v26 : BitVec 1 := Scalar.cmpi .sle v25 v20
  let v27 : BitVec 32 := Scalar.extui v26
  let v28 : BitVec 32 := Scalar.addi v24 v27
  let v30 : BitVec 1 := Scalar.cmpi .sle v29 v20
  let v31 : BitVec 32 := Scalar.extui v30
  let v32 : BitVec 32 := Scalar.addi v28 v31
  let v34 : BitVec 1 := Scalar.cmpi .sle v33 v20
  let v35 : BitVec 32 := Scalar.extui v34
  let v36 : BitVec 32 := Scalar.addi v32 v35
  let v38 : BitVec 1 := Scalar.cmpi .sle v37 v20
  let v39 : BitVec 32 := Scalar.extui v38
  let v40 : BitVec 32 := Scalar.addi v36 v39
  let v42 : BitVec 1 := Scalar.cmpi .sle v41 v20
  let v43 : BitVec 32 := Scalar.extui v42
  let v44 : BitVec 32 := Scalar.addi v40 v43
  let v46 : BitVec 1 := Scalar.cmpi .sle v45 v20
  let v47 : BitVec 32 := Scalar.extui v46
  let v48 : BitVec 32 := Scalar.addi v44 v47
  let v50 : BitVec 1 := Scalar.cmpi .sle v49 v20
  let v51 : BitVec 32 := Scalar.extui v50
  let v52 : BitVec 32 := Scalar.addi v48 v51
  let v54 : BitVec 1 := Scalar.cmpi .sle v53 v20
  let v55 : BitVec 32 := Scalar.extui v54
  let v56 : BitVec 32 := Scalar.addi v52 v55
  let v58 : BitVec 1 := Scalar.cmpi .sle v57 v20
  let v59 : BitVec 32 := Scalar.extui v58
  let v60 : BitVec 32 := Scalar.addi v56 v59
  let v62 : BitVec 1 := Scalar.cmpi .sle v61 v20
  let v63 : BitVec 32 := Scalar.extui v62
  let v64 : BitVec 32 := Scalar.addi v60 v63
  let v66 : BitVec 1 := Scalar.cmpi .sle v65 v20
  let v67 : BitVec 32 := Scalar.extui v66
  let v68 : BitVec 32 := Scalar.addi v64 v67
  let v70 : BitVec 1 := Scalar.cmpi .sle v69 v20
  let v71 : BitVec 32 := Scalar.extui v70
  let v72 : BitVec 32 := Scalar.addi v68 v71
  let v74 : BitVec 1 := Scalar.cmpi .sle v73 v20
  let v75 : BitVec 32 := Scalar.extui v74
  let v76 : BitVec 32 := Scalar.addi v72 v75
  let v78 : BitVec 1 := Scalar.cmpi .sle v77 v20
  let v79 : BitVec 32 := Scalar.extui v78
  let v80 : BitVec 32 := Scalar.addi v76 v79
  let v82 : BitVec 1 := Scalar.cmpi .sle v81 v20
  let v83 : BitVec 32 := Scalar.extui v82
  let v84 : BitVec 32 := Scalar.addi v80 v83
  let c16_i32 : BitVec 32 := 16#32
  let v133 : BitVec 1 := Scalar.cmpi .slt v84 c16_i32
  let c15_i32 : BitVec 32 := 15#32
  let v130 : BitVec 1 := Scalar.cmpi .eq v84 c15_i32
  let c14_i32 : BitVec 32 := 14#32
  let v127 : BitVec 1 := Scalar.cmpi .eq v84 c14_i32
  let c13_i32 : BitVec 32 := 13#32
  let v124 : BitVec 1 := Scalar.cmpi .eq v84 c13_i32
  let c12_i32 : BitVec 32 := 12#32
  let v121 : BitVec 1 := Scalar.cmpi .eq v84 c12_i32
  let c11_i32 : BitVec 32 := 11#32
  let v118 : BitVec 1 := Scalar.cmpi .eq v84 c11_i32
  let c10_i32 : BitVec 32 := 10#32
  let v115 : BitVec 1 := Scalar.cmpi .eq v84 c10_i32
  let c9_i32 : BitVec 32 := 9#32
  let v112 : BitVec 1 := Scalar.cmpi .eq v84 c9_i32
  let c8_i32 : BitVec 32 := 8#32
  let v109 : BitVec 1 := Scalar.cmpi .eq v84 c8_i32
  let c7_i32 : BitVec 32 := 7#32
  let v106 : BitVec 1 := Scalar.cmpi .eq v84 c7_i32
  let c6_i32 : BitVec 32 := 6#32
  let v103 : BitVec 1 := Scalar.cmpi .eq v84 c6_i32
  let c5_i32 : BitVec 32 := 5#32
  let v100 : BitVec 1 := Scalar.cmpi .eq v84 c5_i32
  let c4_i32 : BitVec 32 := 4#32
  let v97 : BitVec 1 := Scalar.cmpi .eq v84 c4_i32
  let c3_i32 : BitVec 32 := 3#32
  let v94 : BitVec 1 := Scalar.cmpi .eq v84 c3_i32
  let c2_i32 : BitVec 32 := 2#32
  let v91 : BitVec 1 := Scalar.cmpi .eq v84 c2_i32
  let c1_i32 : BitVec 32 := 1#32
  let v88 : BitVec 1 := Scalar.cmpi .eq v84 c1_i32
  let c0_i32_9 : BitVec 32 := 0#32
  let v85 : BitVec 1 := Scalar.cmpi .eq v84 c0_i32_9
  let c0_i32_11 : BitVec 32 := 0#32
  let v87 : BitVec 32 := Scalar.select v85 v86 c0_i32_11
  let v90 : BitVec 32 := Scalar.select v88 v89 v87
  let v93 : BitVec 32 := Scalar.select v91 v92 v90
  let v96 : BitVec 32 := Scalar.select v94 v95 v93
  let v99 : BitVec 32 := Scalar.select v97 v98 v96
  let v102 : BitVec 32 := Scalar.select v100 v101 v99
  let v105 : BitVec 32 := Scalar.select v103 v104 v102
  let v108 : BitVec 32 := Scalar.select v106 v107 v105
  let v111 : BitVec 32 := Scalar.select v109 v110 v108
  let v114 : BitVec 32 := Scalar.select v112 v113 v111
  let v117 : BitVec 32 := Scalar.select v115 v116 v114
  let v120 : BitVec 32 := Scalar.select v118 v119 v117
  let v123 : BitVec 32 := Scalar.select v121 v122 v120
  let v126 : BitVec 32 := Scalar.select v124 v125 v123
  let v129 : BitVec 32 := Scalar.select v127 v128 v126
  let v132 : BitVec 32 := Scalar.select v130 v131 v129
  let c0_i32_28 : BitVec 32 := 0#32
  let v135 : BitVec 1 := Scalar.cmpi .sgt v132 c0_i32_28
  let v136 : BitVec 32 := Scalar.extui v135
  let c0_i32_29 : BitVec 32 := 0#32
  let v137 : BitVec 1 := Scalar.cmpi .slt v132 c0_i32_29
  let v138 : BitVec 32 := Scalar.extui v137
  let v139 : BitVec 32 := Scalar.subi v136 v138
  let c128_i32_27 : BitVec 32 := 128#32
  let c0_i32_30 : BitVec 32 := 0#32
  let v140 : BitVec 1 := Scalar.cmpi .sgt c128_i32_27 c0_i32_30
  let v141 : BitVec 32 := Scalar.extui v140
  let c0_i32_31 : BitVec 32 := 0#32
  let v142 : BitVec 1 := Scalar.cmpi .slt c128_i32_27 c0_i32_31
  let v143 : BitVec 32 := Scalar.extui v142
  let v144 : BitVec 32 := Scalar.subi v141 v143
  let v145 : BitVec 1 := Scalar.cmpi .ne v139 v144
  let v146 : BitVec 32 := Scalar.remsi v132 c128_i32_27
  let c0_i32_32 : BitVec 32 := 0#32
  let v147 : BitVec 1 := Scalar.cmpi .ne v146 c0_i32_32
  let v148 : BitVec 1 := Scalar.andi v145 v147
  let v134 : BitVec 32 := Scalar.divsi v132 c128_i32_27
  let c1_i32_33 : BitVec 32 := 1#32
  let v149 : BitVec 32 := Scalar.subi v134 c1_i32_33
  let v150 : BitVec 32 := Scalar.select v148 v149 v134
  let v151 : BitVec 32 := Scalar.subi arg0 v150
  let c1_i32_34 : BitVec 32 := 1#32
  let v152 : BitVec 32 := Scalar.addi v151 c1_i32_34
  let c0_i32_35 : BitVec 32 := 0#32
  let v153 : BitVec 32 := Scalar.select v133 v152 c0_i32_35
  let c4_i32_44 : BitVec 32 := 4#32
  let v166 : BitVec 1 := Scalar.cmpi .eq v153 c4_i32_44
  let v167 : BitVec 32 := Scalar.extui v166
  let c0_i32_45 : BitVec 32 := 0#32
  let v168 : BitVec 1 := Scalar.cmpi .ne v167 c0_i32_45
  v168

def k0_off29 (i : grid0.Coords) : Fin 3 → Nat :=
  let c0_56 : Index := 0#32
  let arg0 : BitVec 32 := BitVec.ofNat 32 (i 0).val
  let c3_i32_46 : BitVec 32 := 3#32
  let v169 : BitVec 32 := Scalar.subi arg0 c3_i32_46
  let c128_i32_55 : BitVec 32 := 128#32
  let v197 : BitVec 32 := Scalar.muli v169 c128_i32_55
  let v198 : Index := Scalar.indexCast v197
  let c0_57 : Index := 0#32
  ![0, v198.toNat, 0]
def k0_off30 (i : grid0.Coords) : Fin 3 → Nat :=
  let c1_71 : Index := 1#32
  let arg0 : BitVec 32 := BitVec.ofNat 32 (i 0).val
  let c3_i32_46 : BitVec 32 := 3#32
  let v169 : BitVec 32 := Scalar.subi arg0 c3_i32_46
  let c128_i32_70 : BitVec 32 := 128#32
  let v217 : BitVec 32 := Scalar.muli v169 c128_i32_70
  let v218 : Index := Scalar.indexCast v217
  let c0_72 : Index := 0#32
  ![1, v218.toNat, 0]
def k0_off31 (i : grid0.Coords) : Fin 3 → Nat :=
  let c2_86 : Index := 2#32
  let arg0 : BitVec 32 := BitVec.ofNat 32 (i 0).val
  let c3_i32_46 : BitVec 32 := 3#32
  let v169 : BitVec 32 := Scalar.subi arg0 c3_i32_46
  let c128_i32_85 : BitVec 32 := 128#32
  let v237 : BitVec 32 := Scalar.muli v169 c128_i32_85
  let v238 : Index := Scalar.indexCast v237
  let c0_87 : Index := 0#32
  ![2, v238.toNat, 0]
def k0_off32 (i : grid0.Coords) : Fin 3 → Nat :=
  let c3_101 : Index := 3#32
  let arg0 : BitVec 32 := BitVec.ofNat 32 (i 0).val
  let c3_i32_46 : BitVec 32 := 3#32
  let v169 : BitVec 32 := Scalar.subi arg0 c3_i32_46
  let c128_i32_100 : BitVec 32 := 128#32
  let v257 : BitVec 32 := Scalar.muli v169 c128_i32_100
  let v258 : Index := Scalar.indexCast v257
  let c0_102 : Index := 0#32
  ![3, v258.toNat, 0]
def k0_off33 (i : grid0.Coords) : Fin 3 → Nat :=
  let c4_116 : Index := 4#32
  let arg0 : BitVec 32 := BitVec.ofNat 32 (i 0).val
  let c3_i32_46 : BitVec 32 := 3#32
  let v169 : BitVec 32 := Scalar.subi arg0 c3_i32_46
  let c128_i32_115 : BitVec 32 := 128#32
  let v277 : BitVec 32 := Scalar.muli v169 c128_i32_115
  let v278 : Index := Scalar.indexCast v277
  let c0_117 : Index := 0#32
  ![4, v278.toNat, 0]
def k0_off34 (i : grid0.Coords) : Fin 3 → Nat :=
  let c5_131 : Index := 5#32
  let arg0 : BitVec 32 := BitVec.ofNat 32 (i 0).val
  let c3_i32_46 : BitVec 32 := 3#32
  let v169 : BitVec 32 := Scalar.subi arg0 c3_i32_46
  let c128_i32_130 : BitVec 32 := 128#32
  let v297 : BitVec 32 := Scalar.muli v169 c128_i32_130
  let v298 : Index := Scalar.indexCast v297
  let c0_132 : Index := 0#32
  ![5, v298.toNat, 0]
def k0_off35 (i : grid0.Coords) : Fin 3 → Nat :=
  let c6_146 : Index := 6#32
  let arg0 : BitVec 32 := BitVec.ofNat 32 (i 0).val
  let c3_i32_46 : BitVec 32 := 3#32
  let v169 : BitVec 32 := Scalar.subi arg0 c3_i32_46
  let c128_i32_145 : BitVec 32 := 128#32
  let v317 : BitVec 32 := Scalar.muli v169 c128_i32_145
  let v318 : Index := Scalar.indexCast v317
  let c0_147 : Index := 0#32
  ![6, v318.toNat, 0]
def k0_off36 (i : grid0.Coords) : Fin 3 → Nat :=
  let c7_161 : Index := 7#32
  let arg0 : BitVec 32 := BitVec.ofNat 32 (i 0).val
  let c3_i32_46 : BitVec 32 := 3#32
  let v169 : BitVec 32 := Scalar.subi arg0 c3_i32_46
  let c128_i32_160 : BitVec 32 := 128#32
  let v337 : BitVec 32 := Scalar.muli v169 c128_i32_160
  let v338 : Index := Scalar.indexCast v337
  let c0_162 : Index := 0#32
  ![7, v338.toNat, 0]

def k0_chk1 (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) : Prop :=
  (∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off10 i) a + S1x512.size a ≤ S32x512.size a) ∧
  (∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off11 i) a + S1x256x64.size a ≤ S8x4096x64.size a) ∧
  (∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off12 i) a + S1x256x64.size a ≤ S8x4096x64.size a) ∧
  (∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off13 i) a + S1x256x64.size a ≤ S8x4096x64.size a) ∧
  (∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off14 i) a + S1x256x64.size a ≤ S8x4096x64.size a) ∧
  (∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off15 i) a + S1x256x64.size a ≤ S8x4096x64.size a) ∧
  (∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off16 i) a + S1x256x64.size a ≤ S8x4096x64.size a) ∧
  (∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off17 i) a + S1x256x64.size a ≤ S8x4096x64.size a) ∧
  (∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off18 i) a + S1x256x64.size a ≤ S8x4096x64.size a) ∧
  (∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off19 i) a + S1x512.size a ≤ S32x512.size a) ∧
  (∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off20 i) a + S1x384x64.size a ≤ S8x4096x64.size a) ∧
  (∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off21 i) a + S1x384x64.size a ≤ S8x4096x64.size a) ∧
  (∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off22 i) a + S1x384x64.size a ≤ S8x4096x64.size a) ∧
  (∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off23 i) a + S1x384x64.size a ≤ S8x4096x64.size a) ∧
  (∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off24 i) a + S1x384x64.size a ≤ S8x4096x64.size a) ∧
  (∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off25 i) a + S1x384x64.size a ≤ S8x4096x64.size a) ∧
  (∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off26 i) a + S1x384x64.size a ≤ S8x4096x64.size a) ∧
  (∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off27 i) a + S1x384x64.size a ≤ S8x4096x64.size a) ∧
  (∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off28 i) a + S1x512.size a ≤ S32x512.size a) ∧
  (∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off29 i) a + S1x512x64.size a ≤ S8x4096x64.size a) ∧
  (∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off30 i) a + S1x512x64.size a ≤ S8x4096x64.size a) ∧
  (∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off31 i) a + S1x512x64.size a ≤ S8x4096x64.size a) ∧
  (∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off32 i) a + S1x512x64.size a ≤ S8x4096x64.size a) ∧
  (∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off33 i) a + S1x512x64.size a ≤ S8x4096x64.size a) ∧
  (∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off34 i) a + S1x512x64.size a ≤ S8x4096x64.size a) ∧
  (∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off35 i) a + S1x512x64.size a ≤ S8x4096x64.size a) ∧
  (∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off36 i) a + S1x512x64.size a ≤ S8x4096x64.size a)
theorem k0_off10_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off10 i) a + S1x512.size a ≤ S32x512.size a := fun i v21 v25 v29 v33 v37 v41 v45 v49 v53 v57 v61 v65 v69 v73 v77 v81 v86 v89 v92 v95 v98 v101 v104 v107 v110 v113 v116 v119 v122 v125 v128 v131 k0_hw1 k0_h4 => k0_hw1.1 k0_h4
theorem k0_off11_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off11 i) a + S1x256x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h4 => k0_hw1.2.1 k0_h4
theorem k0_off12_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off12 i) a + S1x256x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h4 => k0_hw1.2.2.1 k0_h4
theorem k0_off13_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off13 i) a + S1x256x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h4 => k0_hw1.2.2.2.1 k0_h4
theorem k0_off14_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off14 i) a + S1x256x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h4 => k0_hw1.2.2.2.2.1 k0_h4
theorem k0_off15_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off15 i) a + S1x256x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h4 => k0_hw1.2.2.2.2.2.1 k0_h4
theorem k0_off16_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off16 i) a + S1x256x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h4 => k0_hw1.2.2.2.2.2.2.1 k0_h4
theorem k0_off17_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off17 i) a + S1x256x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h4 => k0_hw1.2.2.2.2.2.2.2.1 k0_h4
theorem k0_off18_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h4 : k0_cond4 i v21 v25 v29 v33 v37 v41 v45 v49 v53 v57 v61 v65 v69 v73 v77 v81 v86 v89 v92 v95 v98 v101 v104 v107 v110 v113 v116 v119 v122 v125 v128 v131 = 1#1), ∀ a, (k0_off18 i) a + S1x256x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h4 => k0_hw1.2.2.2.2.2.2.2.2.1 k0_h4
theorem k0_off19_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off19 i) a + S1x512.size a ≤ S32x512.size a := fun i v21 v25 v29 v33 v37 v41 v45 v49 v53 v57 v61 v65 v69 v73 v77 v81 v86 v89 v92 v95 v98 v101 v104 v107 v110 v113 v116 v119 v122 v125 v128 v131 k0_hw1 k0_h5 => k0_hw1.2.2.2.2.2.2.2.2.2.1 k0_h5
theorem k0_off20_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off20 i) a + S1x384x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h5 => k0_hw1.2.2.2.2.2.2.2.2.2.2.1 k0_h5
theorem k0_off21_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off21 i) a + S1x384x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h5 => k0_hw1.2.2.2.2.2.2.2.2.2.2.2.1 k0_h5
theorem k0_off22_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off22 i) a + S1x384x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h5 => k0_hw1.2.2.2.2.2.2.2.2.2.2.2.2.1 k0_h5
theorem k0_off23_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off23 i) a + S1x384x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h5 => k0_hw1.2.2.2.2.2.2.2.2.2.2.2.2.2.1 k0_h5
theorem k0_off24_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off24 i) a + S1x384x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h5 => k0_hw1.2.2.2.2.2.2.2.2.2.2.2.2.2.2.1 k0_h5
theorem k0_off25_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off25 i) a + S1x384x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h5 => k0_hw1.2.2.2.2.2.2.2.2.2.2.2.2.2.2.2.1 k0_h5
theorem k0_off26_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off26 i) a + S1x384x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h5 => k0_hw1.2.2.2.2.2.2.2.2.2.2.2.2.2.2.2.2.1 k0_h5
theorem k0_off27_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h5 : k0_cond5 i v21 v25 v29 v33 v37 v41 v45 v49 v53 v57 v61 v65 v69 v73 v77 v81 v86 v89 v92 v95 v98 v101 v104 v107 v110 v113 v116 v119 v122 v125 v128 v131 = 1#1), ∀ a, (k0_off27 i) a + S1x384x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h5 => k0_hw1.2.2.2.2.2.2.2.2.2.2.2.2.2.2.2.2.2.1 k0_h5
theorem k0_off28_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off28 i) a + S1x512.size a ≤ S32x512.size a := fun i v21 v25 v29 v33 v37 v41 v45 v49 v53 v57 v61 v65 v69 v73 v77 v81 v86 v89 v92 v95 v98 v101 v104 v107 v110 v113 v116 v119 v122 v125 v128 v131 k0_hw1 k0_h6 => k0_hw1.2.2.2.2.2.2.2.2.2.2.2.2.2.2.2.2.2.2.1 k0_h6
theorem k0_off29_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off29 i) a + S1x512x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h6 => k0_hw1.2.2.2.2.2.2.2.2.2.2.2.2.2.2.2.2.2.2.2.1 k0_h6
theorem k0_off30_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off30 i) a + S1x512x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h6 => k0_hw1.2.2.2.2.2.2.2.2.2.2.2.2.2.2.2.2.2.2.2.2.1 k0_h6
theorem k0_off31_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off31 i) a + S1x512x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h6 => k0_hw1.2.2.2.2.2.2.2.2.2.2.2.2.2.2.2.2.2.2.2.2.2.1 k0_h6
theorem k0_off32_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off32 i) a + S1x512x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h6 => k0_hw1.2.2.2.2.2.2.2.2.2.2.2.2.2.2.2.2.2.2.2.2.2.2.1 k0_h6
theorem k0_off33_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off33 i) a + S1x512x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h6 => k0_hw1.2.2.2.2.2.2.2.2.2.2.2.2.2.2.2.2.2.2.2.2.2.2.2.1 k0_h6
theorem k0_off34_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off34 i) a + S1x512x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h6 => k0_hw1.2.2.2.2.2.2.2.2.2.2.2.2.2.2.2.2.2.2.2.2.2.2.2.2.1 k0_h6
theorem k0_off35_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off35 i) a + S1x512x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h6 => k0_hw1.2.2.2.2.2.2.2.2.2.2.2.2.2.2.2.2.2.2.2.2.2.2.2.2.2.1 k0_h6
theorem k0_off36_inb : ∀ (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) (k0_hw1 : k0_chk1 i v21 v25 v29 v33 v37 v41 v45 v49 v53 v57 v61 v65 v69 v73 v77 v81 v86 v89 v92 v95 v98 v101 v104 v107 v110 v113 v116 v119 v122 v125 v128 v131), ∀ (k0_h6 : k0_cond6 i v21 v25 v29 v33 v37 v41 v45 v49 v53 v57 v61 v65 v69 v73 v77 v81 v86 v89 v92 v95 v98 v101 v104 v107 v110 v113 v116 v119 v122 v125 v128 v131 = 1#1), ∀ a, (k0_off36 i) a + S1x512x64.size a ≤ S8x4096x64.size a := fun i v21 v25 v29 v33 v37 v41 v45 v49 v53 v57 v61 v65 v69 v73 v77 v81 v86 v89 v92 v95 v98 v101 v104 v107 v110 v113 v116 v119 v122 v125 v128 v131 k0_hw1 k0_h6 => k0_hw1.2.2.2.2.2.2.2.2.2.2.2.2.2.2.2.2.2.2.2.2.2.2.2.2.2.2 k0_h6

def k0_cond2 (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) : BitVec 1 :=
  let c0_i32_8 : BitVec 32 := 0#32
  let arg0 : BitVec 32 := BitVec.ofNat 32 (i 0).val
  let c128_i32_7 : BitVec 32 := 128#32
  let v20 : BitVec 32 := Scalar.muli arg0 c128_i32_7
  let v22 : BitVec 1 := Scalar.cmpi .sle v21 v20
  let v23 : BitVec 32 := Scalar.extui v22
  let v24 : BitVec 32 := Scalar.addi c0_i32_8 v23
  let v26 : BitVec 1 := Scalar.cmpi .sle v25 v20
  let v27 : BitVec 32 := Scalar.extui v26
  let v28 : BitVec 32 := Scalar.addi v24 v27
  let v30 : BitVec 1 := Scalar.cmpi .sle v29 v20
  let v31 : BitVec 32 := Scalar.extui v30
  let v32 : BitVec 32 := Scalar.addi v28 v31
  let v34 : BitVec 1 := Scalar.cmpi .sle v33 v20
  let v35 : BitVec 32 := Scalar.extui v34
  let v36 : BitVec 32 := Scalar.addi v32 v35
  let v38 : BitVec 1 := Scalar.cmpi .sle v37 v20
  let v39 : BitVec 32 := Scalar.extui v38
  let v40 : BitVec 32 := Scalar.addi v36 v39
  let v42 : BitVec 1 := Scalar.cmpi .sle v41 v20
  let v43 : BitVec 32 := Scalar.extui v42
  let v44 : BitVec 32 := Scalar.addi v40 v43
  let v46 : BitVec 1 := Scalar.cmpi .sle v45 v20
  let v47 : BitVec 32 := Scalar.extui v46
  let v48 : BitVec 32 := Scalar.addi v44 v47
  let v50 : BitVec 1 := Scalar.cmpi .sle v49 v20
  let v51 : BitVec 32 := Scalar.extui v50
  let v52 : BitVec 32 := Scalar.addi v48 v51
  let v54 : BitVec 1 := Scalar.cmpi .sle v53 v20
  let v55 : BitVec 32 := Scalar.extui v54
  let v56 : BitVec 32 := Scalar.addi v52 v55
  let v58 : BitVec 1 := Scalar.cmpi .sle v57 v20
  let v59 : BitVec 32 := Scalar.extui v58
  let v60 : BitVec 32 := Scalar.addi v56 v59
  let v62 : BitVec 1 := Scalar.cmpi .sle v61 v20
  let v63 : BitVec 32 := Scalar.extui v62
  let v64 : BitVec 32 := Scalar.addi v60 v63
  let v66 : BitVec 1 := Scalar.cmpi .sle v65 v20
  let v67 : BitVec 32 := Scalar.extui v66
  let v68 : BitVec 32 := Scalar.addi v64 v67
  let v70 : BitVec 1 := Scalar.cmpi .sle v69 v20
  let v71 : BitVec 32 := Scalar.extui v70
  let v72 : BitVec 32 := Scalar.addi v68 v71
  let v74 : BitVec 1 := Scalar.cmpi .sle v73 v20
  let v75 : BitVec 32 := Scalar.extui v74
  let v76 : BitVec 32 := Scalar.addi v72 v75
  let v78 : BitVec 1 := Scalar.cmpi .sle v77 v20
  let v79 : BitVec 32 := Scalar.extui v78
  let v80 : BitVec 32 := Scalar.addi v76 v79
  let v82 : BitVec 1 := Scalar.cmpi .sle v81 v20
  let v83 : BitVec 32 := Scalar.extui v82
  let v84 : BitVec 32 := Scalar.addi v80 v83
  let c16_i32 : BitVec 32 := 16#32
  let v133 : BitVec 1 := Scalar.cmpi .slt v84 c16_i32
  let c15_i32 : BitVec 32 := 15#32
  let v130 : BitVec 1 := Scalar.cmpi .eq v84 c15_i32
  let c14_i32 : BitVec 32 := 14#32
  let v127 : BitVec 1 := Scalar.cmpi .eq v84 c14_i32
  let c13_i32 : BitVec 32 := 13#32
  let v124 : BitVec 1 := Scalar.cmpi .eq v84 c13_i32
  let c12_i32 : BitVec 32 := 12#32
  let v121 : BitVec 1 := Scalar.cmpi .eq v84 c12_i32
  let c11_i32 : BitVec 32 := 11#32
  let v118 : BitVec 1 := Scalar.cmpi .eq v84 c11_i32
  let c10_i32 : BitVec 32 := 10#32
  let v115 : BitVec 1 := Scalar.cmpi .eq v84 c10_i32
  let c9_i32 : BitVec 32 := 9#32
  let v112 : BitVec 1 := Scalar.cmpi .eq v84 c9_i32
  let c8_i32 : BitVec 32 := 8#32
  let v109 : BitVec 1 := Scalar.cmpi .eq v84 c8_i32
  let c7_i32 : BitVec 32 := 7#32
  let v106 : BitVec 1 := Scalar.cmpi .eq v84 c7_i32
  let c6_i32 : BitVec 32 := 6#32
  let v103 : BitVec 1 := Scalar.cmpi .eq v84 c6_i32
  let c5_i32 : BitVec 32 := 5#32
  let v100 : BitVec 1 := Scalar.cmpi .eq v84 c5_i32
  let c4_i32 : BitVec 32 := 4#32
  let v97 : BitVec 1 := Scalar.cmpi .eq v84 c4_i32
  let c3_i32 : BitVec 32 := 3#32
  let v94 : BitVec 1 := Scalar.cmpi .eq v84 c3_i32
  let c2_i32 : BitVec 32 := 2#32
  let v91 : BitVec 1 := Scalar.cmpi .eq v84 c2_i32
  let c1_i32 : BitVec 32 := 1#32
  let v88 : BitVec 1 := Scalar.cmpi .eq v84 c1_i32
  let c0_i32_9 : BitVec 32 := 0#32
  let v85 : BitVec 1 := Scalar.cmpi .eq v84 c0_i32_9
  let c0_i32_11 : BitVec 32 := 0#32
  let v87 : BitVec 32 := Scalar.select v85 v86 c0_i32_11
  let v90 : BitVec 32 := Scalar.select v88 v89 v87
  let v93 : BitVec 32 := Scalar.select v91 v92 v90
  let v96 : BitVec 32 := Scalar.select v94 v95 v93
  let v99 : BitVec 32 := Scalar.select v97 v98 v96
  let v102 : BitVec 32 := Scalar.select v100 v101 v99
  let v105 : BitVec 32 := Scalar.select v103 v104 v102
  let v108 : BitVec 32 := Scalar.select v106 v107 v105
  let v111 : BitVec 32 := Scalar.select v109 v110 v108
  let v114 : BitVec 32 := Scalar.select v112 v113 v111
  let v117 : BitVec 32 := Scalar.select v115 v116 v114
  let v120 : BitVec 32 := Scalar.select v118 v119 v117
  let v123 : BitVec 32 := Scalar.select v121 v122 v120
  let v126 : BitVec 32 := Scalar.select v124 v125 v123
  let v129 : BitVec 32 := Scalar.select v127 v128 v126
  let v132 : BitVec 32 := Scalar.select v130 v131 v129
  let c0_i32_28 : BitVec 32 := 0#32
  let v135 : BitVec 1 := Scalar.cmpi .sgt v132 c0_i32_28
  let v136 : BitVec 32 := Scalar.extui v135
  let c0_i32_29 : BitVec 32 := 0#32
  let v137 : BitVec 1 := Scalar.cmpi .slt v132 c0_i32_29
  let v138 : BitVec 32 := Scalar.extui v137
  let v139 : BitVec 32 := Scalar.subi v136 v138
  let c128_i32_27 : BitVec 32 := 128#32
  let c0_i32_30 : BitVec 32 := 0#32
  let v140 : BitVec 1 := Scalar.cmpi .sgt c128_i32_27 c0_i32_30
  let v141 : BitVec 32 := Scalar.extui v140
  let c0_i32_31 : BitVec 32 := 0#32
  let v142 : BitVec 1 := Scalar.cmpi .slt c128_i32_27 c0_i32_31
  let v143 : BitVec 32 := Scalar.extui v142
  let v144 : BitVec 32 := Scalar.subi v141 v143
  let v145 : BitVec 1 := Scalar.cmpi .ne v139 v144
  let v146 : BitVec 32 := Scalar.remsi v132 c128_i32_27
  let c0_i32_32 : BitVec 32 := 0#32
  let v147 : BitVec 1 := Scalar.cmpi .ne v146 c0_i32_32
  let v148 : BitVec 1 := Scalar.andi v145 v147
  let v134 : BitVec 32 := Scalar.divsi v132 c128_i32_27
  let c1_i32_33 : BitVec 32 := 1#32
  let v149 : BitVec 32 := Scalar.subi v134 c1_i32_33
  let v150 : BitVec 32 := Scalar.select v148 v149 v134
  let v151 : BitVec 32 := Scalar.subi arg0 v150
  let c1_i32_34 : BitVec 32 := 1#32
  let v152 : BitVec 32 := Scalar.addi v151 c1_i32_34
  let c0_i32_35 : BitVec 32 := 0#32
  let v153 : BitVec 32 := Scalar.select v133 v152 c0_i32_35
  let c0_i32_36 : BitVec 32 := 0#32
  let v154 : BitVec 1 := Scalar.cmpi .eq v153 c0_i32_36
  let v155 : BitVec 32 := Scalar.extui v154
  let c0_i32_37 : BitVec 32 := 0#32
  let v156 : BitVec 1 := Scalar.cmpi .ne v155 c0_i32_37
  v156

def k0_cond3 (i : grid0.Coords) (v21 : BitVec 32) (v25 : BitVec 32) (v29 : BitVec 32) (v33 : BitVec 32) (v37 : BitVec 32) (v41 : BitVec 32) (v45 : BitVec 32) (v49 : BitVec 32) (v53 : BitVec 32) (v57 : BitVec 32) (v61 : BitVec 32) (v65 : BitVec 32) (v69 : BitVec 32) (v73 : BitVec 32) (v77 : BitVec 32) (v81 : BitVec 32) (v86 : BitVec 32) (v89 : BitVec 32) (v92 : BitVec 32) (v95 : BitVec 32) (v98 : BitVec 32) (v101 : BitVec 32) (v104 : BitVec 32) (v107 : BitVec 32) (v110 : BitVec 32) (v113 : BitVec 32) (v116 : BitVec 32) (v119 : BitVec 32) (v122 : BitVec 32) (v125 : BitVec 32) (v128 : BitVec 32) (v131 : BitVec 32) : BitVec 1 :=
  let c0_i32_8 : BitVec 32 := 0#32
  let arg0 : BitVec 32 := BitVec.ofNat 32 (i 0).val
  let c128_i32_7 : BitVec 32 := 128#32
  let v20 : BitVec 32 := Scalar.muli arg0 c128_i32_7
  let v22 : BitVec 1 := Scalar.cmpi .sle v21 v20
  let v23 : BitVec 32 := Scalar.extui v22
  let v24 : BitVec 32 := Scalar.addi c0_i32_8 v23
  let v26 : BitVec 1 := Scalar.cmpi .sle v25 v20
  let v27 : BitVec 32 := Scalar.extui v26
  let v28 : BitVec 32 := Scalar.addi v24 v27
  let v30 : BitVec 1 := Scalar.cmpi .sle v29 v20
  let v31 : BitVec 32 := Scalar.extui v30
  let v32 : BitVec 32 := Scalar.addi v28 v31
  let v34 : BitVec 1 := Scalar.cmpi .sle v33 v20
  let v35 : BitVec 32 := Scalar.extui v34
  let v36 : BitVec 32 := Scalar.addi v32 v35
  let v38 : BitVec 1 := Scalar.cmpi .sle v37 v20
  let v39 : BitVec 32 := Scalar.extui v38
  let v40 : BitVec 32 := Scalar.addi v36 v39
  let v42 : BitVec 1 := Scalar.cmpi .sle v41 v20
  let v43 : BitVec 32 := Scalar.extui v42
  let v44 : BitVec 32 := Scalar.addi v40 v43
  let v46 : BitVec 1 := Scalar.cmpi .sle v45 v20
  let v47 : BitVec 32 := Scalar.extui v46
  let v48 : BitVec 32 := Scalar.addi v44 v47
  let v50 : BitVec 1 := Scalar.cmpi .sle v49 v20
  let v51 : BitVec 32 := Scalar.extui v50
  let v52 : BitVec 32 := Scalar.addi v48 v51
  let v54 : BitVec 1 := Scalar.cmpi .sle v53 v20
  let v55 : BitVec 32 := Scalar.extui v54
  let v56 : BitVec 32 := Scalar.addi v52 v55
  let v58 : BitVec 1 := Scalar.cmpi .sle v57 v20
  let v59 : BitVec 32 := Scalar.extui v58
  let v60 : BitVec 32 := Scalar.addi v56 v59
  let v62 : BitVec 1 := Scalar.cmpi .sle v61 v20
  let v63 : BitVec 32 := Scalar.extui v62
  let v64 : BitVec 32 := Scalar.addi v60 v63
  let v66 : BitVec 1 := Scalar.cmpi .sle v65 v20
  let v67 : BitVec 32 := Scalar.extui v66
  let v68 : BitVec 32 := Scalar.addi v64 v67
  let v70 : BitVec 1 := Scalar.cmpi .sle v69 v20
  let v71 : BitVec 32 := Scalar.extui v70
  let v72 : BitVec 32 := Scalar.addi v68 v71
  let v74 : BitVec 1 := Scalar.cmpi .sle v73 v20
  let v75 : BitVec 32 := Scalar.extui v74
  let v76 : BitVec 32 := Scalar.addi v72 v75
  let v78 : BitVec 1 := Scalar.cmpi .sle v77 v20
  let v79 : BitVec 32 := Scalar.extui v78
  let v80 : BitVec 32 := Scalar.addi v76 v79
  let v82 : BitVec 1 := Scalar.cmpi .sle v81 v20
  let v83 : BitVec 32 := Scalar.extui v82
  let v84 : BitVec 32 := Scalar.addi v80 v83
  let c16_i32 : BitVec 32 := 16#32
  let v133 : BitVec 1 := Scalar.cmpi .slt v84 c16_i32
  let c15_i32 : BitVec 32 := 15#32
  let v130 : BitVec 1 := Scalar.cmpi .eq v84 c15_i32
  let c14_i32 : BitVec 32 := 14#32
  let v127 : BitVec 1 := Scalar.cmpi .eq v84 c14_i32
  let c13_i32 : BitVec 32 := 13#32
  let v124 : BitVec 1 := Scalar.cmpi .eq v84 c13_i32
  let c12_i32 : BitVec 32 := 12#32
  let v121 : BitVec 1 := Scalar.cmpi .eq v84 c12_i32
  let c11_i32 : BitVec 32 := 11#32
  let v118 : BitVec 1 := Scalar.cmpi .eq v84 c11_i32
  let c10_i32 : BitVec 32 := 10#32
  let v115 : BitVec 1 := Scalar.cmpi .eq v84 c10_i32
  let c9_i32 : BitVec 32 := 9#32
  let v112 : BitVec 1 := Scalar.cmpi .eq v84 c9_i32
  let c8_i32 : BitVec 32 := 8#32
  let v109 : BitVec 1 := Scalar.cmpi .eq v84 c8_i32
  let c7_i32 : BitVec 32 := 7#32
  let v106 : BitVec 1 := Scalar.cmpi .eq v84 c7_i32
  let c6_i32 : BitVec 32 := 6#32
  let v103 : BitVec 1 := Scalar.cmpi .eq v84 c6_i32
  let c5_i32 : BitVec 32 := 5#32
  let v100 : BitVec 1 := Scalar.cmpi .eq v84 c5_i32
  let c4_i32 : BitVec 32 := 4#32
  let v97 : BitVec 1 := Scalar.cmpi .eq v84 c4_i32
  let c3_i32 : BitVec 32 := 3#32
  let v94 : BitVec 1 := Scalar.cmpi .eq v84 c3_i32
  let c2_i32 : BitVec 32 := 2#32
  let v91 : BitVec 1 := Scalar.cmpi .eq v84 c2_i32
  let c1_i32 : BitVec 32 := 1#32
  let v88 : BitVec 1 := Scalar.cmpi .eq v84 c1_i32
  let c0_i32_9 : BitVec 32 := 0#32
  let v85 : BitVec 1 := Scalar.cmpi .eq v84 c0_i32_9
  let c0_i32_11 : BitVec 32 := 0#32
  let v87 : BitVec 32 := Scalar.select v85 v86 c0_i32_11
  let v90 : BitVec 32 := Scalar.select v88 v89 v87
  let v93 : BitVec 32 := Scalar.select v91 v92 v90
  let v96 : BitVec 32 := Scalar.select v94 v95 v93
  let v99 : BitVec 32 := Scalar.select v97 v98 v96
  let v102 : BitVec 32 := Scalar.select v100 v101 v99
  let v105 : BitVec 32 := Scalar.select v103 v104 v102
  let v108 : BitVec 32 := Scalar.select v106 v107 v105
  let v111 : BitVec 32 := Scalar.select v109 v110 v108
  let v114 : BitVec 32 := Scalar.select v112 v113 v111
  let v117 : BitVec 32 := Scalar.select v115 v116 v114
  let v120 : BitVec 32 := Scalar.select v118 v119 v117
  let v123 : BitVec 32 := Scalar.select v121 v122 v120
  let v126 : BitVec 32 := Scalar.select v124 v125 v123
  let v129 : BitVec 32 := Scalar.select v127 v128 v126
  let v132 : BitVec 32 := Scalar.select v130 v131 v129
  let c0_i32_28 : BitVec 32 := 0#32
  let v135 : BitVec 1 := Scalar.cmpi .sgt v132 c0_i32_28
  let v136 : BitVec 32 := Scalar.extui v135
  let c0_i32_29 : BitVec 32 := 0#32
  let v137 : BitVec 1 := Scalar.cmpi .slt v132 c0_i32_29
  let v138 : BitVec 32 := Scalar.extui v137
  let v139 : BitVec 32 := Scalar.subi v136 v138
  let c128_i32_27 : BitVec 32 := 128#32
  let c0_i32_30 : BitVec 32 := 0#32
  let v140 : BitVec 1 := Scalar.cmpi .sgt c128_i32_27 c0_i32_30
  let v141 : BitVec 32 := Scalar.extui v140
  let c0_i32_31 : BitVec 32 := 0#32
  let v142 : BitVec 1 := Scalar.cmpi .slt c128_i32_27 c0_i32_31
  let v143 : BitVec 32 := Scalar.extui v142
  let v144 : BitVec 32 := Scalar.subi v141 v143
  let v145 : BitVec 1 := Scalar.cmpi .ne v139 v144
  let v146 : BitVec 32 := Scalar.remsi v132 c128_i32_27
  let c0_i32_32 : BitVec 32 := 0#32
  let v147 : BitVec 1 := Scalar.cmpi .ne v146 c0_i32_32
  let v148 : BitVec 1 := Scalar.andi v145 v147
  let v134 : BitVec 32 := Scalar.divsi v132 c128_i32_27
  let c1_i32_33 : BitVec 32 := 1#32
  let v149 : BitVec 32 := Scalar.subi v134 c1_i32_33
  let v150 : BitVec 32 := Scalar.select v148 v149 v134
  let v151 : BitVec 32 := Scalar.subi arg0 v150
  let c1_i32_34 : BitVec 32 := 1#32
  let v152 : BitVec 32 := Scalar.addi v151 c1_i32_34
  let c0_i32_35 : BitVec 32 := 0#32
  let v153 : BitVec 32 := Scalar.select v133 v152 c0_i32_35
  let c1_i32_38 : BitVec 32 := 1#32
  let v157 : BitVec 1 := Scalar.cmpi .eq v153 c1_i32_38
  let v158 : BitVec 32 := Scalar.extui v157
  let c0_i32_39 : BitVec 32 := 0#32
  let v159 : BitVec 1 := Scalar.cmpi .ne v158 c0_i32_39
  v159

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x8x64 : Shape := ⟨3, ![4096, 8, 64]⟩
abbrev S17 : Shape := ⟨1, ![17]⟩
abbrev S16 : Shape := ⟨1, ![16]⟩
abbrev S512 : Shape := ⟨1, ![512]⟩
abbrev S16x1 : Shape := ⟨2, ![16, 1]⟩
abbrev S1x512 : Shape := ⟨2, ![1, 512]⟩
abbrev S16x512 : Shape := ⟨2, ![16, 512]⟩
abbrev S_ : Shape := ⟨0, ![]⟩
abbrev S16x512x1 : Shape := ⟨3, ![16, 512, 1]⟩
abbrev S16x512x8x64 : Shape := ⟨4, ![16, 512, 8, 64]⟩
abbrev S16x512x1x1 : Shape := ⟨4, ![16, 512, 1, 1]⟩
abbrev S16x1x512 : Shape := ⟨3, ![16, 1, 512]⟩
abbrev S16x512x512 : Shape := ⟨3, ![16, 512, 512]⟩
abbrev S512x512 : Shape := ⟨2, ![512, 512]⟩
abbrev S1x512x512 : Shape := ⟨3, ![1, 512, 512]⟩
abbrev S16x8x512x512 : Shape := ⟨4, ![16, 8, 512, 512]⟩
abbrev S16x1x512x512 : Shape := ⟨4, ![16, 1, 512, 512]⟩
abbrev S16x8x64x512 : Shape := ⟨4, ![16, 8, 64, 512]⟩
abbrev S4097x8x64 : Shape := ⟨3, ![4097, 8, 64]⟩
abbrev S8192 : Shape := ⟨1, ![8192]⟩
abbrev S8192x8x64 : Shape := ⟨3, ![8192, 8, 64]⟩
abbrev S8192x1 : Shape := ⟨2, ![8192, 1]⟩

abbrev nBuf : Space → Nat
  | .hbm => 131
  | .vmem => 0
  | .smem => 0
  | _ => 0

abbrev hbmTy0_0 (i : Nat) : BufTy := match i % 128 with
  | 0 => ⟨S4096x8x64, .f32⟩
  | 1 => ⟨S4096x8x64, .f32⟩
  | 2 => ⟨S4096x8x64, .f32⟩
  | 3 => ⟨S17, .i32⟩
  | 4 => ⟨S16, .i32⟩
  | 5 => ⟨S16, .i32⟩
  | 6 => ⟨S16, .i32⟩
  | 7 => ⟨S16, .i32⟩
  | 8 => ⟨S512, .i32⟩
  | 9 => ⟨S16, .i32⟩
  | 10 => ⟨S16x1, .i32⟩
  | 11 => ⟨S1x512, .i32⟩
  | 12 => ⟨S16x512, .i32⟩
  | 13 => ⟨S16x512, .i32⟩
  | 14 => ⟨S16x512, .i32⟩
  | 15 => ⟨S1x512, .i32⟩
  | 16 => ⟨S16x1, .i32⟩
  | 17 => ⟨S16x512, .i32⟩
  | 18 => ⟨S16x512, .i32⟩
  | 19 => ⟨S16x512, .i1⟩
  | 20 => ⟨S_, .i32⟩
  | 21 => ⟨S16x512, .i32⟩
  | 22 => ⟨S16x512, .i32⟩
  | 23 => ⟨S_, .i32⟩
  | 24 => ⟨S16x512, .i32⟩
  | 25 => ⟨S16x512, .i1⟩
  | 26 => ⟨S_, .i32⟩
  | 27 => ⟨S16x512, .i32⟩
  | 28 => ⟨S16x512, .i32⟩
  | 29 => ⟨S16x512, .i32⟩
  | 30 => ⟨S16x512x1, .i32⟩
  | 31 => ⟨S16x512x8x64, .f32⟩
  | 32 => ⟨S16x512x1x1, .i1⟩
  | 33 => ⟨S16x512x1x1, .f32⟩
  | 34 => ⟨S16x512x8x64, .f32⟩
  | 35 => ⟨S16x512x8x64, .f32⟩
  | 36 => ⟨S_, .i32⟩
  | 37 => ⟨S16x512, .i32⟩
  | 38 => ⟨S16x512, .i1⟩
  | 39 => ⟨S_, .i32⟩
  | 40 => ⟨S16x512, .i32⟩
  | 41 => ⟨S16x512, .i32⟩
  | 42 => ⟨S16x512, .i32⟩
  | 43 => ⟨S16x512x1, .i32⟩
  | 44 => ⟨S16x512x8x64, .f32⟩
  | 45 => ⟨S16x512x1x1, .i1⟩
  | 46 => ⟨S16x512x1x1, .f32⟩
  | 47 => ⟨S16x512x8x64, .f32⟩
  | 48 => ⟨S16x512x8x64, .f32⟩
  | 49 => ⟨S_, .i32⟩
  | 50 => ⟨S16x512, .i32⟩
  | 51 => ⟨S16x512, .i1⟩
  | 52 => ⟨S_, .i32⟩
  | 53 => ⟨S16x512, .i32⟩
  | 54 => ⟨S16x512, .i32⟩
  | 55 => ⟨S16x512, .i32⟩
  | 56 => ⟨S16x512x1, .i32⟩
  | 57 => ⟨S16x512x8x64, .f32⟩
  | 58 => ⟨S16x512x1x1, .i1⟩
  | 59 => ⟨S16x512x1x1, .f32⟩
  | 60 => ⟨S16x512x8x64, .f32⟩
  | 61 => ⟨S16x512x8x64, .f32⟩
  | 62 => ⟨S16, .i32⟩
  | 63 => ⟨S16x1, .i32⟩
  | 64 => ⟨S1x512, .i32⟩
  | 65 => ⟨S16x512, .i32⟩
  | 66 => ⟨S16x512, .i32⟩
  | 67 => ⟨S16x512, .i32⟩
  | 68 => ⟨S16x512x1, .i32⟩
  | 69 => ⟨S16x1x512, .i32⟩
  | 70 => ⟨S16x512x512, .i32⟩
  | 71 => ⟨S16x512x512, .i32⟩
  | 72 => ⟨S16x512x512, .i32⟩
  | 73 => ⟨S512x512, .i32⟩
  | 74 => ⟨S512x512, .i32⟩
  | 75 => ⟨S_, .i32⟩
  | 76 => ⟨S512x512, .i32⟩
  | 77 => ⟨S512x512, .i32⟩
  | 78 => ⟨S512x512, .i1⟩
  | 79 => ⟨S1x512x512, .i1⟩
  | 80 => ⟨S_, .i32⟩
  | 81 => ⟨S16x512x512, .i32⟩
  | 82 => ⟨S16x512x512, .i1⟩
  | 83 => ⟨S16x512x512, .i1⟩
  | 84 => ⟨S16x512x512, .i1⟩
  | 85 => ⟨S16x1x512, .i1⟩
  | 86 => ⟨S16x512x512, .i1⟩
  | 87 => ⟨S16x512x512, .i1⟩
  | 88 => ⟨S16x512x1, .i1⟩
  | 89 => ⟨S16x512x512, .i1⟩
  | 90 => ⟨S16x512x512, .i1⟩
  | 91 => ⟨S16x8x512x512, .f32⟩
  | 92 => ⟨S_, .f32⟩
  | 93 => ⟨S16x8x512x512, .f32⟩
  | 94 => ⟨S16x8x512x512, .f32⟩
  | 95 => ⟨S16x8x512x512, .f32⟩
  | 96 => ⟨S16x8x512x512, .f32⟩
  | 97 => ⟨S_, .f32⟩
  | 98 => ⟨S16x8x512x512, .f32⟩
  | 99 => ⟨S16x8x512x512, .f32⟩
  | 100 => ⟨S_, .f32⟩
  | 101 => ⟨S16x8x512x512, .f32⟩
  | 102 => ⟨S16x8x512x512, .f32⟩
  | 103 => ⟨S16x8x512x512, .f32⟩
  | 104 => ⟨S_, .f32⟩
  | 105 => ⟨S16x8x512x512, .f32⟩
  | 106 => ⟨S16x8x512x512, .f32⟩
  | 107 => ⟨S16x1x512x512, .i1⟩
  | 108 => ⟨S16x1x512x512, .f32⟩
  | 109 => ⟨S16x8x512x512, .f32⟩
  | 110 => ⟨S16x8x512x512, .f32⟩
  | 111 => ⟨S16x8x64x512, .f32⟩
  | 112 => ⟨S16x512x8x64, .f32⟩
  | 113 => ⟨S_, .i32⟩
  | 114 => ⟨S_, .i32⟩
  | 115 => ⟨S16x512, .i32⟩
  | 116 => ⟨S16x512, .i32⟩
  | 117 => ⟨S_, .f32⟩
  | 118 => ⟨S4097x8x64, .f32⟩
  | 119 => ⟨S8192, .i32⟩
  | 120 => ⟨S8192x8x64, .f32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S4096x8x64, .f32⟩

abbrev hbmTy0_1 (i : Nat) : BufTy := match i % 128 with
  | 0 => ⟨S8192x1, .i32⟩
  | 1 => ⟨S4097x8x64, .f32⟩
  | 2 => ⟨S4096x8x64, .f32⟩
  | _ => ⟨S4096x8x64, .f32⟩

abbrev hbmTy (i : Nat) : BufTy := match i / 128 with
  | 0 => hbmTy0_0 i
  | 1 => hbmTy0_1 i
  | _ => ⟨S4096x8x64, .f32⟩

abbrev bufTy : (tb : Table) → Fin (tcTables nBuf tb) → BufTy
  | .hbm, ⟨i, _⟩ => hbmTy i
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_c_6 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_c_7 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst : Ref sig .tc := ⟨.hbm, 92, rfl⟩
abbrev main_v78 : Ref sig .tc := ⟨.hbm, 93, rfl⟩
abbrev main_v79 : Ref sig .tc := ⟨.hbm, 94, rfl⟩
abbrev main_call0_v0 : Ref sig .tc := ⟨.hbm, 95, rfl⟩
abbrev main_call0_v1 : Ref sig .tc := ⟨.hbm, 96, rfl⟩
abbrev main_call0_cst : Ref sig .tc := ⟨.hbm, 97, rfl⟩
abbrev main_call0_v2 : Ref sig .tc := ⟨.hbm, 98, rfl⟩
abbrev main_call0_v3 : Ref sig .tc := ⟨.hbm, 99, rfl⟩
abbrev main_call0_cst_0 : Ref sig .tc := ⟨.hbm, 100, rfl⟩
abbrev main_call0_v4 : Ref sig .tc := ⟨.hbm, 101, rfl⟩
abbrev main_call0_v5 : Ref sig .tc := ⟨.hbm, 102, rfl⟩
abbrev main_v80 : Ref sig .tc := ⟨.hbm, 103, rfl⟩
abbrev main_cst_8 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_c_9 : Ref sig .tc := ⟨.hbm, 113, rfl⟩
abbrev main_call1_v0 : Ref sig .tc := ⟨.hbm, 114, rfl⟩
abbrev main_call1_v1 : Ref sig .tc := ⟨.hbm, 115, rfl⟩
abbrev main_v89 : Ref sig .tc := ⟨.hbm, 116, rfl⟩
abbrev main_cst_10 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_c_11 : Ref sig .tc := ⟨.hbm, 121, rfl⟩
abbrev main_v93 : Ref sig .tc := ⟨.hbm, 122, rfl⟩
abbrev main_v94 : Ref sig .tc := ⟨.hbm, 123, rfl⟩
abbrev main_c_12 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩

abbrev nD : Nat := 1
abbrev τ : Topo := Topo.v7x

variable {F : FTy → Type} [FloatOps F]
-- ==== Proof.Tokens.lean ====
module

public import Idealize.ShloMosaic.Lib.Tactic
public import Idealize.ShloMosaic.Lib.Pipeline.Frame
public import Idealize.ShloMosaic.Lib.ValueIdxCore

@[expose] public section

set_option maxRecDepth 16384

noncomputable section

/-!
  The ragged batch as its two integer tables say it: for a token, the sequence it is in, where that sequence starts,
  and its identifier there; for a tile of 128 tokens, how many tiles back its sequence reaches.
-/
namespace Cert.Tokens

open Idealize.ShloMosaic

/-! ## The metadata of a token, from the tables' words -/

/-- The number of sequence ends at or before token `t`. -/
def bOf (w : Fin 17 → BitVec 32) (t : BitVec 32) : BitVec 32 :=
  ([1, 2, 3, 4, 5, 6, 7, 8, 9, 10, 11, 12, 13, 14, 15, 16] : List (Fin 17)).foldl
    (fun b j => Scalar.addi b (Scalar.extui (Scalar.cmpi .sle (w j) t))) 0#32

/-- Of sixteen words the one at position `b` (0 past the last). -/
def pick (u : Fin 16 → BitVec 32) (b : BitVec 32) : BitVec 32 :=
  ([0, 1, 2, 3, 4, 5, 6, 7, 8, 9, 10, 11, 12, 13, 14, 15] : List (Fin 16)).foldl
    (fun o j => Scalar.select (Scalar.cmpi .eq b (BitVec.ofNat 32 j.val)) (u j) o) 0#32

/-- Where sequence `b` starts, and its largest identifier: its length less its targets. -/
def offOf (w : Fin 17 → BitVec 32) (b : BitVec 32) : BitVec 32 := pick (fun j => w j.castSucc) b
def maxOf (w : Fin 17 → BitVec 32) (n : Fin 16 → BitVec 32) (b : BitVec 32) : BitVec 32 :=
  pick (fun j => Scalar.subi (Scalar.subi (w j.succ) (w j.castSucc)) (n j)) b

/-- Token `t`'s identifier: its position in its sequence, at most the largest identifier. -/
def idOf (w : Fin 17 → BitVec 32) (n : Fin 16 → BitVec 32) (t : BitVec 32) : BitVec 32 :=
  Scalar.minsi (Scalar.subi t (offOf w (bOf w t))) (maxOf w n (bOf w t))

/-- Token `t`'s sequence, or a code of its own from `k` on if it is past the last one. -/
def seqOf (w : Fin 17 → BitVec 32) (k t : BitVec 32) : BitVec 32 :=
  Scalar.select (Scalar.cmpi .slt (bOf w t) 16#32) (bOf w t) (Scalar.addi k (Scalar.muli 2#32 t))

/-- How many tiles the window of the tile of number `r` has: back to the tile in which the sequence of its first
    token starts; none if that token is past the last sequence. -/
def tiles (r : BitVec 32) (w : Fin 17 → BitVec 32) : BitVec 32 :=
  let b := bOf w (Scalar.muli r 128#32)
  let o := offOf w b
  Scalar.select (Scalar.cmpi .slt b 16#32)
    (Scalar.addi (Scalar.subi r (Scalar.select
      (Scalar.andi
        (Scalar.cmpi .ne (Scalar.subi (Scalar.extui (Scalar.cmpi .sgt o 0#32)) (Scalar.extui (Scalar.cmpi .slt o 0#32)))
          (Scalar.subi (Scalar.extui (Scalar.cmpi .sgt 128#32 0#32)) (Scalar.extui (Scalar.cmpi .slt 128#32 0#32))))
        (Scalar.cmpi .ne (Scalar.remsi o 128#32) 0#32))
      (Scalar.subi (Scalar.divsi o 128#32) 1#32) (Scalar.divsi o 128#32))) 1#32) 0#32

/-- What is known of the offsets: from 0 on they never fall, and grow by at most 384 a step. -/
structure Rag (w : Fin 17 → BitVec 32) : Prop where
  start : (w 0).toNat = 0
  step : ∀ j : Fin 16, (w j.castSucc).toNat ≤ (w j.succ).toNat ∧ (w j.succ).toNat ≤ (w j.castSucc).toNat + 384

/-- So none is past 16 times 384. -/
theorem Rag.top {w : Fin 17 → BitVec 32} (h : Rag w) (j : Fin 17) : (w j).toNat ≤ 6144 := by
  have g : (w j).toNat ≤ 384 * j.val := by
    induction j using Fin.induction with
    | zero => have := h.start; omega
    | succ i ih =>
      have := (h.step i).2
      rw [Fin.val_castSucc] at ih
      rw [Fin.val_succ]
      omega
  have := j.isLt
  omega

/-- The offsets never fall. -/
theorem Rag.mono {w : Fin 17 → BitVec 32} (h : Rag w) : ∀ i j : Fin 17, i ≤ j → (w i).toNat ≤ (w j).toNat := by
  have : Monotone fun j => (w j).toNat := Fin.monotone_iff_le_succ.mpr fun j => (h.step j).1
  exact fun i j hij => this hij

/-- Of the offsets those up to a token's place are the ones up to some position. -/
theorem Rag.exists_last {w : Fin 17 → BitVec 32} (h : Rag w) (t : ℕ) : ∃ b : Fin 17, ∀ j, (w j).toNat ≤ t ↔ j ≤ b := by
  classical
  have hne : (Finset.univ.filter fun j : Fin 17 => (w j).toNat ≤ t).Nonempty := ⟨0, by simp [h.start]⟩
  refine ⟨(Finset.univ.filter fun j : Fin 17 => (w j).toNat ≤ t).max' hne, fun j => ⟨fun hj => ?_, fun hj => ?_⟩⟩
  · exact Finset.le_max' _ j (Finset.mem_filter.mpr ⟨Finset.mem_univ _, hj⟩)
  · exact (h.mono _ _ hj).trans (Finset.mem_filter.mp (Finset.max'_mem _ hne)).2

/-- A signed comparison of two words below `2 ^ 31`. -/
theorem sle_iff {x y : BitVec 32} (hx : x.toNat < 2 ^ 31) (hy : y.toNat < 2 ^ 31) : x.sle y = decide (x.toNat ≤ y.toNat) := by
  rw [BitVec.sle_eq_decide, BitVec.toInt_eq_toNat_of_lt (by omega), BitVec.toInt_eq_toNat_of_lt (by omega)]
  simp
theorem slt_iff {x y : BitVec 32} (hx : x.toNat < 2 ^ 31) (hy : y.toNat < 2 ^ 31) : x.slt y = decide (x.toNat < y.toNat) := by
  rw [BitVec.slt_eq_decide, BitVec.toInt_eq_toNat_of_lt (by omega), BitVec.toInt_eq_toNat_of_lt (by omega)]
  simp

/-- The count of the ends up to a token is the last position whose offset is up to it. -/
theorem bOf_eq {w : Fin 17 → BitVec 32} (h : Rag w) {t : BitVec 32} (ht : t.toNat < 4096) {b : Fin 17}
    (hb : ∀ j, (w j).toNat ≤ t.toNat ↔ j ≤ b) : bOf w t = BitVec.ofNat 32 b.val := by
  have hc : ∀ j, Scalar.cmpi .sle (w j) t = BitVec.ofBool (decide (j ≤ b)) := by
    intro j
    show BitVec.ofBool ((w j).sle t) = _
    have := h.top j
    rw [sle_iff (by omega) (by omega), decide_eq_decide.mpr (hb j)]
  unfold bOf
  simp only [hc]
  clear hc hb ht h
  revert b
  decide +kernel

/-- `pick` at a position, and past the last. -/
theorem pick_at (u : Fin 16 → BitVec 32) (b : Fin 16) : pick u (BitVec.ofNat 32 b.val) = u b := by
  fin_cases b <;> rfl
theorem pick_past (u : Fin 16 → BitVec 32) : pick u 16#32 = 0#32 := rfl

/-- The rounding to a tile of an offset. -/
theorem floor_tile : ∀ (a : Fin 33) (b : Fin 128), let o : BitVec 32 := BitVec.ofNat 32 (128 * a.val + b.val)
    Scalar.select
      (Scalar.andi
        (Scalar.cmpi .ne (Scalar.subi (Scalar.extui (Scalar.cmpi .sgt o 0#32)) (Scalar.extui (Scalar.cmpi .slt o 0#32)))
          (Scalar.subi (Scalar.extui (Scalar.cmpi .sgt 128#32 0#32)) (Scalar.extui (Scalar.cmpi .slt 128#32 0#32))))
        (Scalar.cmpi .ne (Scalar.remsi o 128#32) 0#32))
      (Scalar.subi (Scalar.divsi o 128#32) 1#32) (Scalar.divsi o 128#32) = BitVec.ofNat 32 a.val := by
  decide +kernel

theorem tiles_sub : ∀ r q : Fin 32, q ≤ r →
    Scalar.addi (Scalar.subi (BitVec.ofNat 32 r.val) (BitVec.ofNat 32 q.val)) 1#32 = BitVec.ofNat 32 (r.val - q.val + 1) := by
  decide +kernel

theorem tile_start : ∀ r : Fin 32, (Scalar.muli (BitVec.ofNat 32 r.val) 128#32).toNat = 128 * r.val := by decide +kernel

theorem slt_sixteen : ∀ b : Fin 17, Scalar.cmpi .slt (BitVec.ofNat 32 b.val) 16#32 = BitVec.ofBool (decide (b.val < 16)) := by
  decide +kernel

/-- The window of a tile whose first token is in a sequence, and of one past the last sequence. -/
theorem tiles_in {w : Fin 17 → BitVec 32} (h : Rag w) (r : Fin 32) (b : Fin 16)
    (hb : ∀ j, (w j).toNat ≤ 128 * r.val ↔ j ≤ b.castSucc) :
    tiles (BitVec.ofNat 32 r.val) w = BitVec.ofNat 32 (r.val - (w b.castSucc).toNat / 128 + 1) := by
  have hs := (hb b.castSucc).mpr le_rfl
  have e : bOf w (Scalar.muli (BitVec.ofNat 32 r.val) 128#32) = BitVec.ofNat 32 b.val :=
    bOf_eq h (b := b.castSucc) (by rw [tile_start]; omega) (fun j => by rw [tile_start]; exact hb j)
  have e2 : offOf w (BitVec.ofNat 32 b.val) = w b.castSucc := pick_at _ b
  have e3 := slt_sixteen b.castSucc
  have hq : (w b.castSucc).toNat / 128 < 32 := by omega
  have e4 := floor_tile ⟨(w b.castSucc).toNat / 128, by omega⟩ ⟨(w b.castSucc).toNat % 128, by omega⟩
  have e5 : BitVec.ofNat 32 (128 * ((w b.castSucc).toNat / 128) + (w b.castSucc).toNat % 128) = w b.castSucc := by
    rw [Nat.div_add_mod]; simp
  have e6 := tiles_sub r ⟨(w b.castSucc).toNat / 128, hq⟩ (by show (w b.castSucc).toNat / 128 ≤ r.val; omega)
  unfold tiles
  simp only [] at e4
  rw [e5] at e4
  simp only [e, e2]
  rw [e4, e6, show Scalar.cmpi .slt (BitVec.ofNat 32 b.val) 16#32 = 1#1 from by
    rw [show b.val = b.castSucc.val from rfl, e3]; simp [b.isLt]]
  rfl

theorem tiles_out {w : Fin 17 → BitVec 32} (h : Rag w) (r : Fin 32) (hb : (w 16).toNat ≤ 128 * r.val) :
    tiles (BitVec.ofNat 32 r.val) w = 0#32 := by
  have e : bOf w (Scalar.muli (BitVec.ofNat 32 r.val) 128#32) = BitVec.ofNat 32 (16 : Fin 17).val :=
    bOf_eq h (b := 16) (by rw [tile_start]; omega) (fun j => by
      rw [tile_start]; exact ⟨fun _ => Fin.le_last j, fun hj => (h.mono j 16 hj).trans hb⟩)
  unfold tiles
  simp only [e]
  rfl

/-- What a window can be: none, past the last sequence; or from the tile where the first token's sequence starts. -/
theorem tiles_cases {w : Fin 17 → BitVec 32} (h : Rag w) (r : Fin 32) :
    (tiles (BitVec.ofNat 32 r.val) w = 0#32 ∧ (w 16).toNat ≤ 128 * r.val) ∨
    ∃ (n : Fin 4) (b : Fin 16), tiles (BitVec.ofNat 32 r.val) w = BitVec.ofNat 32 (n.val + 1) ∧ n.val ≤ r.val ∧
      r.val - n.val = (w b.castSucc).toNat / 128 ∧ (w b.castSucc).toNat ≤ 128 * r.val ∧ 128 * r.val < (w b.succ).toNat := by
  obtain ⟨b, hb⟩ := h.exists_last (128 * r.val)
  by_cases h16 : b = 16
  · subst h16
    have := (hb 16).mpr le_rfl
    exact .inl ⟨tiles_out h r this, this⟩
  · obtain ⟨b, rfl⟩ : ∃ b' : Fin 16, b = b'.castSucc := ⟨⟨b.val, by
      have := b.isLt; have : b.val ≠ 16 := fun e => h16 (Fin.ext e); omega⟩, rfl⟩
    have h1 := (hb b.castSucc).mpr le_rfl
    have h2 : 128 * r.val < (w b.succ).toNat := by
      by_contra hh
      have := (hb b.succ).mp (by omega)
      exact absurd this (by simp [Fin.le_def])
    have h3 := (h.step b).2
    refine .inr ⟨⟨r.val - (w b.castSucc).toNat / 128, by omega⟩, b, tiles_in h r b hb, Nat.sub_le _ _, ?_, h1, h2⟩
    show r.val - (r.val - (w b.castSucc).toNat / 128) = _
    omega

/-- The body's question whether the window is `n` tiles. -/
theorem ask_iff (x n : BitVec 32) :
    Scalar.cmpi .ne (Scalar.extui (Scalar.cmpi .eq x n)) 0#32 = 1#1 ↔ x = n := by
  show BitVec.ofBool (BitVec.setWidth 32 (BitVec.ofBool (x == n)) != 0#32) = 1#1 ↔ _
  by_cases h : x = n
  · simp [h]
  · rw [beq_eq_false_iff_ne.mpr h]; simp [h]

end Cert.Tokens
end
-- ==== Proof.Ragged.lean ====
module

public import proofs.«01_k».proof.Defs
public import proofs.«01_k».proof.Proof.Tokens

@[expose] public section

noncomputable section

/-!
  What the precondition says of the offsets table: it starts at 0, it never falls, and no sequence is longer
  than 384 tokens.
-/
namespace Cert.Tokens

open Idealize.ShloMosaic Idealize.ShloMosaic.ValueIdx

/-- A one-bit word is 1 exactly when the proposition it codes holds. -/
theorem ofBool_one (p : Bool) : (BitVec.ofBool p = 1#1) ↔ p = true := by cases p <;> decide
theorem andi_one (p q : BitVec 1) : IntOp.andi p q = 1#1 ↔ p = 1#1 ∧ q = 1#1 := by revert p q; decide

/-- A word that lies between two naturals as a signed word, taken as a natural. -/
theorem toNat_of_signed (x : BitVec 32) (n : ℕ) (hn : n < 2 ^ 31) (h0 : (0#32 : BitVec 32).sle x = true) (h1 : x.sle (BitVec.ofNat 32 n) = true) :
    x.toNat ≤ n := by
  have hx := x.isLt
  simp only [BitVec.sle, decide_eq_true_eq, BitVec.toInt_eq_toNat_cond, BitVec.toNat_ofNat] at h0 h1
  rw [Nat.mod_eq_of_lt (by omega : n < 2 ^ 32)] at h1
  split at h1 <;> split at h0 <;> split at h1 <;> simp at h0 h1 <;> omega

section cat

variable {α : Type} (x1 : Cert.Pre_ragged.S1.Idx → α) (x2 : Cert.Pre_ragged.S16.Idx → α)
  (hc : Shape.Concatenates [Cert.Pre_ragged.S1, Cert.Pre_ragged.S16] Cert.Pre_ragged.S17 0)

/-- Where each of the two joined vectors' entries stands. -/
theorem cat_first : concatenate Cert.Pre_ragged.S17 0 [⟨_, x1⟩, ⟨_, x2⟩] hc (ix1 (0 : Fin 17)) = x1 (ix1 (0 : Fin 1)) :=
  congrArg x1 (by funext a; match a with | ⟨0, _⟩ => rfl)
theorem cat_second (j : Fin 16) : concatenate Cert.Pre_ragged.S17 0 [⟨_, x1⟩, ⟨_, x2⟩] hc (ix1 (⟨1 + j.val, by omega⟩ : Fin 17)) = x2 (ix1 j) := by
  fin_cases j <;> exact congrArg x2 (by funext a; match a with | ⟨0, _⟩ => rfl)

end cat

/-- The table the precondition admits. -/
theorem rag_of_pre [hP : Cert.Pre_ragged.Facts] {F : FTy → Type} [FloatOps F] (a0 a1 a2 : FVec F Cert.Pre_ragged.S4096x8x64 .f32)
    (w : IVec Cert.Pre_ragged.S17 32) (n : IVec Cert.Pre_ragged.S16 32)
    (h : Cert.Pre_ragged.fn a0 a1 a2 w n = fun _ => 1#1) : Rag fun k => w (ix1 k) := by
  have sl (x : Cert.Pre_ragged.S17.Idx) (k : Fin 17) (e : (x 0).val = k.val) : x = ix1 k := by
    funext a; match a with | ⟨0, _⟩ => exact Fin.ext e
  unfold Cert.Pre_ragged.fn at h
  have hs := (cat_first _ _ _).symm.trans (congrFun h _)
  have hl := fun j => (cat_second _ _ _ j).symm.trans (congrFun h _)
  clear h
  simp only [andi, cmpi, subi, broadcastInDim, constantI, extractStridedSlice, andi_one] at hs hl
  have z : (w (ix1 0)).toNat = 0 := by
    have hs' : IntOp.cmpi .eq (w (ix1 0)) 0#32 = 1#1 := Eq.trans (congrArg (fun x => IntOp.cmpi .eq (w x) 0#32) (sl _ 0 (by rfl)).symm) hs
    have e : w (ix1 0) = 0#32 := by simpa only [IntOp.cmpi, ofBool_one, beq_iff_eq] using hs'
    show (w (ix1 0)).toNat = 0
    rw [e]; rfl
  have st (j : Fin 16) : (w (ix1 j.succ) - w (ix1 j.castSucc)).toNat ≤ 384 := by
    obtain ⟨h0, h1⟩ := hl j
    have e (C : BitVec 32 → BitVec 1) (x y : Cert.Pre_ragged.S17.Idx) (hx : (x 0).val = j.succ.val) (hy : (y 0).val = j.castSucc.val)
        (hC : C (IntOp.subi (w x) (w y)) = 1#1) : C (IntOp.subi (w (ix1 j.succ)) (w (ix1 j.castSucc))) = 1#1 := by
      rw [← sl x _ hx, ← sl y _ hy]; exact hC
    have h0' := e (fun d => IntOp.cmpi .sge d 0#32) _ _ (by show 1 + j.val = j.val + 1; omega) (by show 0 + j.val = j.val; omega) h0
    have h1' := e (fun d => IntOp.cmpi .sle d 384#32) _ _ (by show 1 + j.val = j.val + 1; omega) (by show 0 + j.val = j.val; omega) h1
    exact toNat_of_signed _ 384 (by decide) ((ofBool_one _).mp h0') ((ofBool_one _).mp h1')
  have top (j : Fin 17) : (w (ix1 j)).toNat ≤ 384 * j.val := by
    induction j using Fin.induction with
    | zero => omega
    | succ i ih =>
      have d := st i
      rw [BitVec.toNat_sub] at d
      rw [Fin.val_castSucc] at ih
      rw [Fin.val_succ]
      omega
  refine ⟨z, fun j => ?_⟩
  have d := st j
  have t0 := top j.castSucc
  rw [Fin.val_castSucc] at t0
  have t1 := (w (ix1 j.succ)).isLt
  rw [BitVec.toNat_sub] at d
  show (w (ix1 j.castSucc)).toNat ≤ (w (ix1 j.succ)).toNat ∧ (w (ix1 j.succ)).toNat ≤ (w (ix1 j.castSucc)).toNat + 384
  omega

end Cert.Tokens
end
-- ==== Proof.KernelIdeal.Common.lean ====
module

public import proofs.«01_k».proof.Proof.Gen.KernelIdeal.Skeleton
public import proofs.«01_k».proof.Proof.Gen.KernelIdeal.Launch
public import Idealize.ShloMosaic.Lib.Tactic
public import Idealize.ShloMosaic.Lib.Pipeline.Frame
public import Idealize.ShloMosaic.Lib.ValueIdxCore
public import proofs.«01_k».proof.Proof.Tokens

@[expose] public section

set_option maxRecDepth 16384

noncomputable section

namespace Cert.KernelIdeal.Body

open Cert.KernelIdeal Cert.KernelIdeal.Gen Cert.Tokens
open Idealize.ShloMosaic
open Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

/-- The resource algebra: the rounds library's, for the pipeline's cells. -/
abbrev UR (nD : Nat) (τ : Topo) : Type := URounds (GSem nD τ sig) Unit

variable {F : FTy → Type} [FloatOps F]

local notation "𝕄" => MT nD τ sig Unit (Elt F) ℕ (UR nD τ) ℕ

/-- Memref `M`'s contents on core `c`; the memref held whole; and a table held at the share the body is given. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
abbrev pth (c : Dev nD) {sp : Space} {S : Shape} {e : EltTy} (M : Memref sig .tc sp S e) (f : Bf (F := F) c M) : sProp 𝕄 :=
  M.view.loc (c : Thread nD τ) ↦{fullShare.right} f

/-! The operands that are one buffer each: the two tables, the staged keys and values, the four metadata buffers. -/
abbrev mT : Memref sig .tc .smem S17 .i32 := Memref.whole main_arg3
abbrev mN : Memref sig .tc .smem S16 .i32 := Memref.whole main_arg4
abbrev mK : Memref sig .tc .vmem S8x4096x64 .f32 := Memref.whole cc0_stg1_0
abbrev mV : Memref sig .tc .vmem S8x4096x64 .f32 := Memref.whole cc0_stg2_0
abbrev mCb : Memref sig .tc .vmem S32x512 .i32 := Memref.whole cc0_scratch0
abbrev mCi : Memref sig .tc .vmem S32x512 .i32 := Memref.whole cc0_scratch1
abbrev mRb : Memref sig .tc .vmem S128x32 .i32 := Memref.whole cc0_scratch2
abbrev mRi : Memref sig .tc .vmem S128x32 .i32 := Memref.whole cc0_scratch3

/-- Word `k` of the offsets table, as the body's scalar load reads it. -/
abbrev rd (c : Dev nD) (T : Bf (F := F) c mT) (k : ℕ) (h : ∀ a, (![k] : Fin 1 → ℕ) a + S1.size a ≤ S17.size a) : BitVec 32 :=
  View.readAt (Elt F) mT.view (Rect.unit (s := S17) ![k] S1.size h).toLoadRect T (Shape.Idx.first (s := S1) (by decide))

/-- The word by its position. -/
theorem inb_word : ∀ (k : Fin 17) a, (![k.val] : Fin 1 → ℕ) a + S1.size a ≤ S17.size a := by decide
def wd (c : Dev nD) (T : Bf (F := F) c mT) (k : Fin 17) : BitVec 32 := rd c T k.val (inb_word k)

omit [FloatOps F] in
theorem wd_eq (c : Dev nD) (T : Bf (F := F) c mT) (k : Fin 17) : wd c T k = (T : S17.Idx → BitVec 32) (ix1 k) := by
  show (T : S17.Idx → BitVec 32) _ = T _
  congr 1
  funext a
  match a with
  | ⟨0, _⟩ => exact Fin.ext (by show k.val + 1 * 0 = k.val; omega)

/-- Word `j` of the targets table, as the body's scalar load reads it. -/
theorem inb_wordN : ∀ (k : Fin 16) a, (![k.val] : Fin 1 → ℕ) a + S1.size a ≤ S16.size a := by decide
def wdN (c : Dev nD) (N : Bf (F := F) c mN) (k : Fin 16) : BitVec 32 :=
  View.readAt (Elt F) mN.view (Rect.unit (s := S16) ![k.val] S1.size (inb_wordN k)).toLoadRect N (Shape.Idx.first (s := S1) (by decide))

omit [FloatOps F] in
theorem wdN_eq (c : Dev nD) (N : Bf (F := F) c mN) (k : Fin 16) : wdN c N k = (N : S16.Idx → BitVec 32) (ix1 k) := by
  show (N : S16.Idx → BitVec 32) _ = N _
  congr 1
  funext a
  match a with
  | ⟨0, _⟩ => exact Fin.ext (by show k.val + 1 * 0 = k.val; omega)

/-- The token of a place of the column metadata, and of the row metadata, as the body counts them. -/
def tokC : IVec S32x512 32 :=
  addi (muli (iota .tc S32x512 32 [0] iota_S32x512_d0_w32) (broadcast S32x512 128#32)) (iota .tc S32x512 32 [1] iota_S32x512_d1_w32)
def tokR : IVec S128x32 32 :=
  addi (iota .tc S128x32 32 [0] iota_S128x32_d0_w32) (muli (iota .tc S128x32 32 [1] iota_S128x32_d1_w32) (broadcast S128x32 128#32))

/-! The four metadata buffers once built. -/
def metaCb (c : Dev nD) (T : Bf (F := F) c mT) : Bf (F := F) c mCb :=
  (fun y : S32x512.Idx => seqOf (wd c T) 17#32 (tokC y))
def metaCi (c : Dev nD) (T : Bf (F := F) c mT) (N : Bf (F := F) c mN) : Bf (F := F) c mCi :=
  (fun y : S32x512.Idx => idOf (wd c T) (wdN c N) (tokC y))
def metaRb (c : Dev nD) (T : Bf (F := F) c mT) : Bf (F := F) c mRb :=
  (fun y : S128x32.Idx => seqOf (wd c T) 16#32 (tokR y))
def metaRi (c : Dev nD) (T : Bf (F := F) c mT) (N : Bf (F := F) c mN) : Bf (F := F) c mRi :=
  (fun y : S128x32.Idx => idOf (wd c T) (wdN c N) (tokR y))

/-! ## Slices, by position -/

/-- Head `h` of a query block. -/
def qhead {α : Type} (h : Fin 8) (X : S128x8x64.Idx → α) : S128x1x64.Idx → α := fun x => X (ix3 (n0 := 128) (x 0) h (x 2))

/-- The `W` rows from tile `ws` of head `h` of the keys or the values. -/
def kwin {α : Type} (W ws : ℕ) (h : Fin 8) (K : S8x4096x64.Idx → α) : (⟨3, ![1, W, 64]⟩ : Shape).Idx → α :=
  fun x => K (ix3 h (⟨(128 * ws + (x 1).val) % 4096, Nat.mod_lt _ (by decide)⟩ : Fin 4096) (x 2 : Fin 64))

/-- Row `ws` of a column metadata buffer. -/
def crow {α : Type} (ws : ℕ) (C : S32x512.Idx → α) : S1x512.Idx → α :=
  fun x => C (ix2 (⟨ws % 32, Nat.mod_lt _ (by decide)⟩ : Fin 32) (x 1 : Fin 512))

theorem inb_head (h : Fin 8) : ∀ a, (![0, h.val, 0] : Fin 3 → ℕ) a + S128x1x64.size a ≤ S128x8x64.size a := by
  revert h; decide

/-- Head `h`'s rectangle of a 128 × 8 × 64 block. -/
abbrev headRect (h : Fin 8) : Rect S128x8x64 := Rect.unit (s := S128x8x64) ![0, h.val, 0] S128x1x64.size (inb_head h)

/-- The eight heads' writes, the last one first. -/
def pieces (g : Fin 8 → S128x1x64.Idx → Elt F .f32) : List (View.Piece (Elt F) S128x8x64 .f32) :=
  ([7, 6, 5, 4, 3, 2, 1, 0] : List (Fin 8)).map fun h => ⟨headRect h, g h⟩

/-- What the eight writes leave: at head `h`, the value written there. -/
theorem read_pieces {κ : Kind} {sp : Space} (v : View sig κ sp S128x8x64 .f32) (f : v.ty.Contents (Elt F))
    (g : Fin 8 → S128x1x64.Idx → Elt F .f32) :
    v.read (Elt F) (v.writes (Elt F) f (pieces g)) = fun y => g (y 1) (ix3 (n0 := 128) (n1 := 1) (y 0) 0 (y 2)) := by
  funext y
  refine View.read_writes_apply_of_pieces (v := v) (f := f) (fun y => g (y 1) (ix3 (n0 := 128) (n1 := 1) (y 0) 0 (y 2)))
    (pieces g) ?_ y ?_
  · intro p hp x
    obtain ⟨h, -, rfl⟩ := List.mem_map.mp hp
    show g h x = g ((headRect h).emb x 1) (ix3 ((headRect h).emb x 0) 0 ((headRect h).emb x 2))
    rw [show (headRect h).emb x 1 = h from Fin.ext (by
      show h.val + 1 * (x 1).val = h.val; have : (x 1).val < 1 := (x 1).isLt; omega)]
    congr 1
    funext a
    match a with
    | ⟨0, _⟩ => exact Fin.ext (by show (x 0).val = 0 + 1 * (x 0).val; omega)
    | ⟨1, _⟩ => exact Fin.ext (by show (x 1).val = 0; have : (x 1).val < 1 := (x 1).isLt; omega)
    | ⟨2, _⟩ => exact Fin.ext (by show (x 2).val = 0 + 1 * (x 2).val; omega)
  · refine ⟨⟨headRect (y 1), g (y 1)⟩, List.mem_map.mpr ⟨y 1, ?_, rfl⟩, ?_⟩
    · exact (by decide : ∀ h : Fin 8, h ∈ ([7, 6, 5, 4, 3, 2, 1, 0] : List (Fin 8))) (y 1)
    · rw [← Rect.map_emb_univ]
      refine Finset.mem_map.mpr ⟨ix3 (n0 := 128) (n1 := 1) (y 0) 0 (y 2), Finset.mem_univ _, ?_⟩
      funext a
      match a with
      | ⟨0, _⟩ => exact Fin.ext (by show 0 + 1 * (y 0).val = (y 0).val; omega)
      | ⟨1, _⟩ => exact Fin.ext (by show (y 1).val + 1 * 0 = (y 1).val; omega)
      | ⟨2, _⟩ => exact Fin.ext (by show 0 + 1 * (y 2).val = (y 2).val; omega)

/-- A read of head `h` of the query block. -/
theorem readAt_head (c : Dev nD) (M : Memref sig .tc .vmem S128x8x64 .f32) (f : Bf (F := F) c M) (h : Fin 8) :
    View.readAt (Elt F) M.view (headRect h).toLoadRect f = qhead h (M.view.read (Elt F) f) := by
  funext x
  show M.view.read (Elt F) f _ = M.view.read (Elt F) f _
  congr 1
  funext a
  match a with
  | ⟨0, _⟩ => exact Fin.ext (by show 0 + 1 * (x 0).val = (x 0).val; omega)
  | ⟨1, _⟩ => exact Fin.ext (by show h.val + 1 * (x 1).val = h.val; have : (x 1).val < 1 := (x 1).isLt; omega)
  | ⟨2, _⟩ => exact Fin.ext (by show 0 + 1 * (x 2).val = (x 2).val; omega)

/-! ## The window's offsets -/

/-- The window's first tile, as the body computes it at window width `n + 1` tiles. -/
abbrev wsW (i : grid0.Coords) (n : BitVec 32) : BitVec 32 := Scalar.subi (BitVec.ofNat 32 (i 0).val) n

/-- The offsets of the key and value loads and of the column metadata loads. -/
abbrev koff (i : grid0.Coords) (n : BitVec 32) (h : Fin 8) : Fin 3 → ℕ :=
  ![h.val, (Scalar.indexCast (Scalar.muli (wsW i n) 128#32)).toNat, 0]
abbrev coff (i : grid0.Coords) (n : BitVec 32) : Fin 2 → ℕ := ![(Scalar.indexCast (wsW i n)).toNat, 0]

/-- At a window that starts inside the array the two offsets do not wrap. -/
theorem offs_nat : ∀ (n : Fin 4) (r : Fin 32), n.val ≤ r.val →
    (Scalar.indexCast (Scalar.subi (BitVec.ofNat 32 r.val) (BitVec.ofNat 32 n.val))).toNat = r.val - n.val ∧
    (Scalar.indexCast (Scalar.muli (Scalar.subi (BitVec.ofNat 32 r.val) (BitVec.ofNat 32 n.val)) 128#32)).toNat = 128 * (r.val - n.val) := by
  decide +kernel

end Cert.KernelIdeal.Body

end
-- ==== Proof.KernelIdeal.Meta.lean ====
module

public import proofs.«01_k».proof.Proof.KernelIdeal.Common
public import Idealize.ShloMosaic.Lib.Pipeline.Value
public import Idealize.ShloMosaic.Lib.VecWindow

@[expose] public section

set_option maxRecDepth 16384

noncomputable section

namespace Cert.KernelIdeal.Body

open Cert.KernelIdeal Cert.KernelIdeal.Gen Cert.Tokens
open Idealize.ShloMosaic
open Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR nD τ) ℕ

/-- The body's test for the first point. -/
abbrev firstC (i : grid0.Coords) : BitVec 1 :=
  Scalar.cmpi .ne (Scalar.extui (Scalar.cmpi .eq (BitVec.ofNat 32 (i 0).val) 0#32) : BitVec 32) 0#32

/-- The four metadata buffers, built. -/
def metas (c : Dev nD) (T : Bf (F := F) c mT) (N : Bf (F := F) c mN) : sProp 𝕄 :=
  iprop(pt c mCb (metaCb c T) ∗ pt c mCi (metaCi c T N) ∗ pt c mRb (metaRb c T) ∗ pt c mRi (metaRi c T N))

/-- What the first part of the body returns: the point, the row tile's sequences, identifiers and tokens, and the
    first words of its walk over the offsets. -/
def words34 (c : Dev nD) (i : grid0.Coords) (T : Bf (F := F) c mT) (N : Bf (F := F) c mN) :
    Σ' (_ : BitVec 32) (_ : IVec S128x1 32) (_ : IVec S128x1 32) (_ : IVec S128x1 32) (_ : BitVec 32) (_ : Elt F .i32)
      (_ : Elt F .i32) (_ : Elt F .i32) (_ : Elt F .i32) (_ : BitVec 32) (_ : Elt F .i32), BitVec 32 :=
  let t0 := Scalar.muli (BitVec.ofNat 32 (i 0).val) 128#32
  ⟨BitVec.ofNat 32 (i 0).val, k0_pay122 (F := F) i (metaRb c T), k0_pay123 (F := F) i (metaRi c T N), k0_pay124 i, t0,
    rd c T 1 inb_S17_S1_1, rd c T 2 inb_S17_S1_2, rd c T 3 inb_S17_S1_3, rd c T 4 inb_S17_S1_4,
    Scalar.addi (Scalar.addi (Scalar.addi (Scalar.addi 0#32 (Scalar.extui (Scalar.cmpi .sle (rd c T 1 inb_S17_S1_1) t0)))
      (Scalar.extui (Scalar.cmpi .sle (rd c T 2 inb_S17_S1_2) t0))) (Scalar.extui (Scalar.cmpi .sle (rd c T 3 inb_S17_S1_3) t0)))
      (Scalar.extui (Scalar.cmpi .sle (rd c T 4 inb_S17_S1_4) t0)),
    rd c T 5 inb_S17_S1_5, Scalar.extui (Scalar.cmpi .sle (rd c T 5 inb_S17_S1_5) t0)⟩

/-! Each metadata buffer is its own view's window: a read of the view is the contents. -/
omit [FloatOps F] in
theorem read_mCb (c : Dev nD) (f : Bf (F := F) c mCb) : mCb.view.read (Elt F) f = f := rfl
omit [FloatOps F] in
theorem read_mCi (c : Dev nD) (f : Bf (F := F) c mCi) : mCi.view.read (Elt F) f = f := rfl
omit [FloatOps F] in
theorem read_mRb (c : Dev nD) (f : Bf (F := F) c mRb) : mRb.view.read (Elt F) f = f := rfl
omit [FloatOps F] in
theorem read_mRi (c : Dev nD) (f : Bf (F := F) c mRi) : mRi.view.read (Elt F) f = f := rfl

/-! A whole store into one of the four leaves what was stored. -/
omit [FloatOps F] in
theorem writes_mCb (c : Dev nD) (f : Bf (F := F) c mCb) (inb : ∀ a, (![0, 0] : Fin 2 → ℕ) a + S32x512.size a ≤ S32x512.size a)
    (w : S32x512.Idx → BitVec 32) :
    mCb.view.writes (Elt F) f [⟨Rect.unit (s := S32x512) ![0, 0] S32x512.size inb, w⟩] = w :=
  (read_mCb c _).symm.trans (View.read_writes_full mCb.view f inb w [])

omit [FloatOps F] in
theorem writes_mCi (c : Dev nD) (f : Bf (F := F) c mCi) (inb : ∀ a, (![0, 0] : Fin 2 → ℕ) a + S32x512.size a ≤ S32x512.size a)
    (w : S32x512.Idx → BitVec 32) :
    mCi.view.writes (Elt F) f [⟨Rect.unit (s := S32x512) ![0, 0] S32x512.size inb, w⟩] = w :=
  (read_mCi c _).symm.trans (View.read_writes_full mCi.view f inb w [])

omit [FloatOps F] in
theorem writes_mRb (c : Dev nD) (f : Bf (F := F) c mRb) (inb : ∀ a, (![0, 0] : Fin 2 → ℕ) a + S128x32.size a ≤ S128x32.size a)
    (w : S128x32.Idx → BitVec 32) :
    mRb.view.writes (Elt F) f [⟨Rect.unit (s := S128x32) ![0, 0] S128x32.size inb, w⟩] = w :=
  (read_mRb c _).symm.trans (View.read_writes_full mRb.view f inb w [])

omit [FloatOps F] in
theorem writes_mRi (c : Dev nD) (f : Bf (F := F) c mRi) (inb : ∀ a, (![0, 0] : Fin 2 → ℕ) a + S128x32.size a ≤ S128x32.size a)
    (w : S128x32.Idx → BitVec 32) :
    mRi.view.writes (Elt F) f [⟨Rect.unit (s := S128x32) ![0, 0] S128x32.size inb, w⟩] = w :=
  (read_mRi c _).symm.trans (View.read_writes_full mRi.view f inb w [])

/-- `pick` of a whole vector of positions, by selects between whole vectors. -/
def pickV {s : Shape} (u : Fin 16 → BitVec 32) (b : IVec s 32) : IVec s 32 :=
  ([0, 1, 2, 3, 4, 5, 6, 7, 8, 9, 10, 11, 12, 13, 14, 15] : List (Fin 16)).foldl
    (fun o j => select (cmpi .eq b (broadcast s (BitVec.ofNat 32 j.val))) (broadcast s (u j)) o) (broadcast s 0#32)

theorem pickV_apply {s : Shape} (u : Fin 16 → BitVec 32) (b : IVec s 32) (x : s.Idx) : pickV u b x = pick u (b x) := by
  have h : ∀ (l : List (Fin 16)) (o : IVec s 32) (p : BitVec 32), o x = p →
      (l.foldl (fun o j => select (cmpi .eq b (broadcast s (BitVec.ofNat 32 j.val))) (broadcast s (u j)) o) o) x
        = l.foldl (fun o j => Scalar.select (Scalar.cmpi .eq (b x) (BitVec.ofNat 32 j.val)) (u j) o) p := by
    intro l
    induction l with
    | nil => intro o p h; exact h
    | cons j l ih => intro o p h; exact ih _ _ (by subst h; rfl)
  exact h _ _ _ rfl

set_option maxHeartbeats 4000000 in
set_option sl_exec.resultNames true in
theorem part34_first (c : Dev nD) (i : grid0.Coords) (hi : firstC i = 1#1)
    (M3 : Memref sig .tc .vmem S128x8x64 .f32) (h3 : M3.IsWhole) (M6 : Memref sig .tc .vmem S128x8x64 .f32) (h6 : M6.IsWhole)
    (T : Bf (F := F) c mT) (N : Bf (F := F) c mN) (cb : Bf (F := F) c mCb) (ci : Bf (F := F) c mCi)
    (rb : Bf (F := F) c mRb) (ri : Bf (F := F) c mRi) (E : Set ℕ) :
    iprop(pth c mT T ∗ pth c mN N ∗ pt c mCb cb ∗ pt c mCi ci ∗ pt c mRb rb ∗ pt c mRi ri)
     ⊢ wp frame (wpE (defs₀ (F := F)) Variants.none c none) E
        (k0_part34 i mT (Memref.isWhole_whole _) mN (Memref.isWhole_whole _) M3 h3 mK (Memref.isWhole_whole _) mV (Memref.isWhole_whole _) M6 h6 mCb (Memref.isWhole_whole _) mCi (Memref.isWhole_whole _) mRb (Memref.isWhole_whole _) mRi (Memref.isWhole_whole _))
        (fun r => iprop(⌜r = words34 c i T N⌝ ∗ pth c mT T ∗ pth c mN N ∗ metas c T N)) := by
  iintro ⟨HT, HN, Hcb, Hci, Hrb, Hri⟩
  sl_exec_parts
  sl_step
  have eRb' : part34_first.sl.v755 c T = metaRb c T := (shapeCast_self (s := S128x32) _ _).trans (funext fun _ => rfl)
  have oR : part34_first.sl.v736 c T = pickV (fun j => wd c T j.castSucc) (part34_first.sl.v549 c T) := by
    unfold pickV; simp only [List.foldl]; rfl
  have xR : part34_first.sl.v743 c T N = pickV (fun j => Scalar.subi (Scalar.subi (wd c T j.succ) (wd c T j.castSucc)) (wdN c N j)) (part34_first.sl.v549 c T) := by
    unfold pickV; simp only [List.foldl]; rfl
  have oC : part34_first.sl.v441 c T = pickV (fun j => wd c T j.castSucc) (part34_first.sl.v254 c T) := by
    unfold pickV; simp only [List.foldl]; rfl
  have xC : part34_first.sl.v448 c T N = pickV (fun j => Scalar.subi (Scalar.subi (wd c T j.succ) (wd c T j.castSucc)) (wdN c N j)) (part34_first.sl.v254 c T) := by
    unfold pickV; simp only [List.foldl]; rfl
  have eRi' : part34_first.sl.v758 c T N = metaRi c T N := by
    refine (shapeCast_self (s := S128x32) (part34_first.sl.v745 c T N) _).trans (funext fun x => ?_)
    show IntOp.minsi (Scalar.subi (tokR x) (part34_first.sl.v736 c T x)) (part34_first.sl.v743 c T N x) = _
    rw [oR, xR, pickV_apply, pickV_apply, show part34_first.sl.v549 c T x = bOf (wd c T) (tokR x) from rfl]
    rfl
  have eCb' : part34_first.sl.v460 c T = metaCb c T := (shapeCast_self (s := S32x512) (part34_first.sl.v457 c T) _).trans (funext fun _ => rfl)
  have eCi' : part34_first.sl.v463 c T N = metaCi c T N := by
    refine (shapeCast_self (s := S32x512) (part34_first.sl.v450 c T N) _).trans (funext fun x => ?_)
    show IntOp.minsi (Scalar.subi (tokC x) (part34_first.sl.v441 c T x)) (part34_first.sl.v448 c T N x) = _
    rw [oC, xC, pickV_apply, pickV_apply, show part34_first.sl.v254 c T x = bOf (wd c T) (tokC x) from rfl]
    rfl
  have eCb : mCb.view.writes (Elt F) cb (part34_first.sl.Hcb_1 c T) = metaCb c T := (writes_mCb c cb _ (part34_first.sl.v460 c T)).trans eCb'
  have eCi : mCi.view.writes (Elt F) ci (part34_first.sl.Hci_1 c T N) = metaCi c T N := (writes_mCi c ci _ (part34_first.sl.v463 c T N)).trans eCi'
  have eRb : mRb.view.writes (Elt F) rb (part34_first.sl.Hrb_1 c T) = metaRb c T := (writes_mRb c rb _ (part34_first.sl.v755 c T)).trans eRb'
  have eRi : mRi.view.writes (Elt F) ri (part34_first.sl.Hri_1 c T N) = metaRi c T N := (writes_mRi c ri _ (part34_first.sl.v758 c T N)).trans eRi'
  rw [eCb, eCi, eRb, eRi]
  unfold metas
  isplitr
  · ipureintro
    have e6 : part34_first.sl.v6 c T = metaRb c T := by
      rw [← eRb']
      exact View.readCov_full mRb.view _ _ _ []
    have e11 : part34_first.sl.v11 c T N = metaRi c T N := by
      rw [← eRi']
      exact View.readCov_full mRi.view _ _ _ []
    rw [show part34_first.sl.v10 c i T = k0_pay122 (F := F) i (metaRb c T) from congrArg (k0_pay122 (F := F) i) e6,
      show part34_first.sl.v15 c i T N = k0_pay123 (F := F) i (metaRi c T N) from congrArg (k0_pay123 (F := F) i) e11]
    rfl
  isplitl [HT]; · iexact HT
  isplitl [HN]; · iexact HN
  isplitl [Hcb]; · iexact Hcb
  isplitl [Hci]; · iexact Hci
  isplitl [Hrb]; · iexact Hrb
  iexact Hri

set_option maxHeartbeats 4000000 in
set_option sl_exec.resultNames true in
theorem part34_later (c : Dev nD) (i : grid0.Coords) (hi : ¬ firstC i = 1#1)
    (M3 : Memref sig .tc .vmem S128x8x64 .f32) (h3 : M3.IsWhole) (M6 : Memref sig .tc .vmem S128x8x64 .f32) (h6 : M6.IsWhole)
    (T : Bf (F := F) c mT) (N : Bf (F := F) c mN) (E : Set ℕ) :
    iprop(pth c mT T ∗ pth c mN N ∗ metas c T N)
     ⊢ wp frame (wpE (defs₀ (F := F)) Variants.none c none) E
        (k0_part34 i mT (Memref.isWhole_whole _) mN (Memref.isWhole_whole _) M3 h3 mK (Memref.isWhole_whole _) mV (Memref.isWhole_whole _) M6 h6 mCb (Memref.isWhole_whole _) mCi (Memref.isWhole_whole _) mRb (Memref.isWhole_whole _) mRi (Memref.isWhole_whole _))
        (fun r => iprop(⌜r = words34 c i T N⌝ ∗ pth c mT T ∗ pth c mN N ∗ metas c T N)) := by
  unfold metas
  iintro ⟨HT, HN, Hcb, Hci, Hrb, Hri⟩
  sl_exec_parts
  sl_step
  isplitr
  · ipureintro
    have e6 : View.readAt (Elt F) mRb.view (Rect.unit (s := S128x32) ![0, 0] S128x32.size inb_S128x32_S128x32_0_0).toLoadRect (metaRb c T) = metaRb c T :=
      (View.readAt_full mRb.view (metaRb c T) _).trans (read_mRb c _)
    have e11 : View.readAt (Elt F) mRi.view (Rect.unit (s := S128x32) ![0, 0] S128x32.size inb_S128x32_S128x32_0_0).toLoadRect (metaRi c T N) = metaRi c T N :=
      (View.readAt_full mRi.view (metaRi c T N) _).trans (read_mRi c _)
    rw [show part34_later.sl.v10 c i T = k0_pay122 (F := F) i (metaRb c T) from congrArg (k0_pay122 (F := F) i) e6,
      show part34_later.sl.v15 c i T N = k0_pay123 (F := F) i (metaRi c T N) from congrArg (k0_pay123 (F := F) i) e11]
    rfl
  isplitl [HT]; · iexact HT
  isplitl [HN]; · iexact HN
  isplitl [Hcb]; · iexact Hcb
  isplitl [Hci]; · iexact Hci
  isplitl [Hrb]; · iexact Hrb
  iexact Hri

end Cert.KernelIdeal.Body

end
-- ==== Proof.KernelIdeal.Ask.lean ====
module

public import proofs.«01_k».proof.Proof.KernelIdeal.Meta

@[expose] public section

set_option maxRecDepth 16384

noncomputable section

namespace Cert.KernelIdeal.Body

open Cert.KernelIdeal Cert.KernelIdeal.Gen Cert.Tokens
open Idealize.ShloMosaic
open Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR nD τ) ℕ

/-! ## What the body asks about the tables' words: its row check and its five conditions. -/
abbrev chkW (c : Dev nD) (i : grid0.Coords) (T : Bf (F := F) c mT) : Prop := k0_chk1 i (rd c T 1 inb_S17_S1_1) (rd c T 2 inb_S17_S1_2) (rd c T 3 inb_S17_S1_3) (rd c T 4 inb_S17_S1_4) (rd c T 5 inb_S17_S1_5) (rd c T 6 inb_S17_S1_6) (rd c T 7 inb_S17_S1_7) (rd c T 8 inb_S17_S1_8) (rd c T 9 inb_S17_S1_9) (rd c T 10 inb_S17_S1_10) (rd c T 11 inb_S17_S1_11) (rd c T 12 inb_S17_S1_12) (rd c T 13 inb_S17_S1_13) (rd c T 14 inb_S17_S1_14) (rd c T 15 inb_S17_S1_15) (rd c T 16 inb_S17_S1_16) (rd c T 0 inb_S17_S1_0) (rd c T 1 inb_S17_S1_1) (rd c T 2 inb_S17_S1_2) (rd c T 3 inb_S17_S1_3) (rd c T 4 inb_S17_S1_4) (rd c T 5 inb_S17_S1_5) (rd c T 6 inb_S17_S1_6) (rd c T 7 inb_S17_S1_7) (rd c T 8 inb_S17_S1_8) (rd c T 9 inb_S17_S1_9) (rd c T 10 inb_S17_S1_10) (rd c T 11 inb_S17_S1_11) (rd c T 12 inb_S17_S1_12) (rd c T 13 inb_S17_S1_13) (rd c T 14 inb_S17_S1_14) (rd c T 15 inb_S17_S1_15)
abbrev cnd2 (c : Dev nD) (i : grid0.Coords) (T : Bf (F := F) c mT) : BitVec 1 := k0_cond2 i (rd c T 1 inb_S17_S1_1) (rd c T 2 inb_S17_S1_2) (rd c T 3 inb_S17_S1_3) (rd c T 4 inb_S17_S1_4) (rd c T 5 inb_S17_S1_5) (rd c T 6 inb_S17_S1_6) (rd c T 7 inb_S17_S1_7) (rd c T 8 inb_S17_S1_8) (rd c T 9 inb_S17_S1_9) (rd c T 10 inb_S17_S1_10) (rd c T 11 inb_S17_S1_11) (rd c T 12 inb_S17_S1_12) (rd c T 13 inb_S17_S1_13) (rd c T 14 inb_S17_S1_14) (rd c T 15 inb_S17_S1_15) (rd c T 16 inb_S17_S1_16) (rd c T 0 inb_S17_S1_0) (rd c T 1 inb_S17_S1_1) (rd c T 2 inb_S17_S1_2) (rd c T 3 inb_S17_S1_3) (rd c T 4 inb_S17_S1_4) (rd c T 5 inb_S17_S1_5) (rd c T 6 inb_S17_S1_6) (rd c T 7 inb_S17_S1_7) (rd c T 8 inb_S17_S1_8) (rd c T 9 inb_S17_S1_9) (rd c T 10 inb_S17_S1_10) (rd c T 11 inb_S17_S1_11) (rd c T 12 inb_S17_S1_12) (rd c T 13 inb_S17_S1_13) (rd c T 14 inb_S17_S1_14) (rd c T 15 inb_S17_S1_15)
abbrev cnd3 (c : Dev nD) (i : grid0.Coords) (T : Bf (F := F) c mT) : BitVec 1 := k0_cond3 i (rd c T 1 inb_S17_S1_1) (rd c T 2 inb_S17_S1_2) (rd c T 3 inb_S17_S1_3) (rd c T 4 inb_S17_S1_4) (rd c T 5 inb_S17_S1_5) (rd c T 6 inb_S17_S1_6) (rd c T 7 inb_S17_S1_7) (rd c T 8 inb_S17_S1_8) (rd c T 9 inb_S17_S1_9) (rd c T 10 inb_S17_S1_10) (rd c T 11 inb_S17_S1_11) (rd c T 12 inb_S17_S1_12) (rd c T 13 inb_S17_S1_13) (rd c T 14 inb_S17_S1_14) (rd c T 15 inb_S17_S1_15) (rd c T 16 inb_S17_S1_16) (rd c T 0 inb_S17_S1_0) (rd c T 1 inb_S17_S1_1) (rd c T 2 inb_S17_S1_2) (rd c T 3 inb_S17_S1_3) (rd c T 4 inb_S17_S1_4) (rd c T 5 inb_S17_S1_5) (rd c T 6 inb_S17_S1_6) (rd c T 7 inb_S17_S1_7) (rd c T 8 inb_S17_S1_8) (rd c T 9 inb_S17_S1_9) (rd c T 10 inb_S17_S1_10) (rd c T 11 inb_S17_S1_11) (rd c T 12 inb_S17_S1_12) (rd c T 13 inb_S17_S1_13) (rd c T 14 inb_S17_S1_14) (rd c T 15 inb_S17_S1_15)
abbrev cnd4 (c : Dev nD) (i : grid0.Coords) (T : Bf (F := F) c mT) : BitVec 1 := k0_cond4 i (rd c T 1 inb_S17_S1_1) (rd c T 2 inb_S17_S1_2) (rd c T 3 inb_S17_S1_3) (rd c T 4 inb_S17_S1_4) (rd c T 5 inb_S17_S1_5) (rd c T 6 inb_S17_S1_6) (rd c T 7 inb_S17_S1_7) (rd c T 8 inb_S17_S1_8) (rd c T 9 inb_S17_S1_9) (rd c T 10 inb_S17_S1_10) (rd c T 11 inb_S17_S1_11) (rd c T 12 inb_S17_S1_12) (rd c T 13 inb_S17_S1_13) (rd c T 14 inb_S17_S1_14) (rd c T 15 inb_S17_S1_15) (rd c T 16 inb_S17_S1_16) (rd c T 0 inb_S17_S1_0) (rd c T 1 inb_S17_S1_1) (rd c T 2 inb_S17_S1_2) (rd c T 3 inb_S17_S1_3) (rd c T 4 inb_S17_S1_4) (rd c T 5 inb_S17_S1_5) (rd c T 6 inb_S17_S1_6) (rd c T 7 inb_S17_S1_7) (rd c T 8 inb_S17_S1_8) (rd c T 9 inb_S17_S1_9) (rd c T 10 inb_S17_S1_10) (rd c T 11 inb_S17_S1_11) (rd c T 12 inb_S17_S1_12) (rd c T 13 inb_S17_S1_13) (rd c T 14 inb_S17_S1_14) (rd c T 15 inb_S17_S1_15)
abbrev cnd5 (c : Dev nD) (i : grid0.Coords) (T : Bf (F := F) c mT) : BitVec 1 := k0_cond5 i (rd c T 1 inb_S17_S1_1) (rd c T 2 inb_S17_S1_2) (rd c T 3 inb_S17_S1_3) (rd c T 4 inb_S17_S1_4) (rd c T 5 inb_S17_S1_5) (rd c T 6 inb_S17_S1_6) (rd c T 7 inb_S17_S1_7) (rd c T 8 inb_S17_S1_8) (rd c T 9 inb_S17_S1_9) (rd c T 10 inb_S17_S1_10) (rd c T 11 inb_S17_S1_11) (rd c T 12 inb_S17_S1_12) (rd c T 13 inb_S17_S1_13) (rd c T 14 inb_S17_S1_14) (rd c T 15 inb_S17_S1_15) (rd c T 16 inb_S17_S1_16) (rd c T 0 inb_S17_S1_0) (rd c T 1 inb_S17_S1_1) (rd c T 2 inb_S17_S1_2) (rd c T 3 inb_S17_S1_3) (rd c T 4 inb_S17_S1_4) (rd c T 5 inb_S17_S1_5) (rd c T 6 inb_S17_S1_6) (rd c T 7 inb_S17_S1_7) (rd c T 8 inb_S17_S1_8) (rd c T 9 inb_S17_S1_9) (rd c T 10 inb_S17_S1_10) (rd c T 11 inb_S17_S1_11) (rd c T 12 inb_S17_S1_12) (rd c T 13 inb_S17_S1_13) (rd c T 14 inb_S17_S1_14) (rd c T 15 inb_S17_S1_15)
abbrev cnd6 (c : Dev nD) (i : grid0.Coords) (T : Bf (F := F) c mT) : BitVec 1 := k0_cond6 i (rd c T 1 inb_S17_S1_1) (rd c T 2 inb_S17_S1_2) (rd c T 3 inb_S17_S1_3) (rd c T 4 inb_S17_S1_4) (rd c T 5 inb_S17_S1_5) (rd c T 6 inb_S17_S1_6) (rd c T 7 inb_S17_S1_7) (rd c T 8 inb_S17_S1_8) (rd c T 9 inb_S17_S1_9) (rd c T 10 inb_S17_S1_10) (rd c T 11 inb_S17_S1_11) (rd c T 12 inb_S17_S1_12) (rd c T 13 inb_S17_S1_13) (rd c T 14 inb_S17_S1_14) (rd c T 15 inb_S17_S1_15) (rd c T 16 inb_S17_S1_16) (rd c T 0 inb_S17_S1_0) (rd c T 1 inb_S17_S1_1) (rd c T 2 inb_S17_S1_2) (rd c T 3 inb_S17_S1_3) (rd c T 4 inb_S17_S1_4) (rd c T 5 inb_S17_S1_5) (rd c T 6 inb_S17_S1_6) (rd c T 7 inb_S17_S1_7) (rd c T 8 inb_S17_S1_8) (rd c T 9 inb_S17_S1_9) (rd c T 10 inb_S17_S1_10) (rd c T 11 inb_S17_S1_11) (rd c T 12 inb_S17_S1_12) (rd c T 13 inb_S17_S1_13) (rd c T 14 inb_S17_S1_14) (rd c T 15 inb_S17_S1_15)

/-- The metadata buffers before a point: of any contents at the first, built at every other. -/
def pre34 (c : Dev nD) (i : grid0.Coords) (T : Bf (F := F) c mT) (N : Bf (F := F) c mN) : sProp 𝕄 :=
  if firstC i = 1#1 then iprop(∃ cb ci rb ri, pt c mCb cb ∗ pt c mCi ci ∗ pt c mRb rb ∗ pt c mRi ri) else metas c T N

/-- The body's first part: it leaves the metadata built, whatever the point. -/
theorem part34 (c : Dev nD) (i : grid0.Coords)
    (M3 : Memref sig .tc .vmem S128x8x64 .f32) (h3 : M3.IsWhole) (M6 : Memref sig .tc .vmem S128x8x64 .f32) (h6 : M6.IsWhole)
    (T : Bf (F := F) c mT) (N : Bf (F := F) c mN) (E : Set ℕ) :
    iprop(pth c mT T ∗ pth c mN N ∗ pre34 c i T N)
     ⊢ wp frame (wpE (defs₀ (F := F)) Variants.none c none) E
        (k0_part34 i mT (Memref.isWhole_whole _) mN (Memref.isWhole_whole _) M3 h3 mK (Memref.isWhole_whole _) mV (Memref.isWhole_whole _) M6 h6 mCb (Memref.isWhole_whole _) mCi (Memref.isWhole_whole _) mRb (Memref.isWhole_whole _) mRi (Memref.isWhole_whole _))
        (fun r => iprop(⌜r = words34 c i T N⌝ ∗ pth c mT T ∗ pth c mN N ∗ metas c T N)) := by
  unfold pre34
  by_cases hi : firstC i = 1#1
  · rw [if_pos hi]
    iintro ⟨HT, HN, ⟨%cb, %ci, %rb, %ri, Hcb, Hci, Hrb, Hri⟩⟩
    iapply part34_first c i hi M3 h3 M6 h6 T N cb ci rb ri E
    isplitl [HT]; · iexact HT
    isplitl [HN]; · iexact HN
    isplitl [Hcb]; · iexact Hcb
    isplitl [Hci]; · iexact Hci
    isplitl [Hrb]; · iexact Hrb
    iexact Hri
  · rw [if_neg hi]
    exact part34_later c i hi M3 h3 M6 h6 T N E

/-! ## The windows, by position -/

/-- The key and value windows start inside the array, as long as the window starts at a tile. -/
theorem inb_koff (n : Fin 4) (i : grid0.Coords) (hn : n.val ≤ (i 0).val) (h : Fin 8) (W : ℕ) (hW : W ≤ 128 * (n.val + 1)) :
    ∀ a, koff i (BitVec.ofNat 32 n.val) h a + (⟨3, ![1, W, 64]⟩ : Shape).size a ≤ S8x4096x64.size a := by
  have e := (offs_nat n (i 0) hn).2
  have := h.isLt
  have : (i 0).val < 32 := (i 0).isLt
  intro a
  match a with
  | ⟨0, _⟩ => show h.val + 1 ≤ 8; omega
  | ⟨1, _⟩ => show (Scalar.indexCast _).toNat + W ≤ 4096; rw [e]; omega
  | ⟨2, _⟩ => show 0 + 64 ≤ 64; omega

theorem inb_coff (n : Fin 4) (i : grid0.Coords) (hn : n.val ≤ (i 0).val) :
    ∀ a, coff i (BitVec.ofNat 32 n.val) a + S1x512.size a ≤ S32x512.size a := by
  have e := (offs_nat n (i 0) hn).1
  have : (i 0).val < 32 := (i 0).isLt
  intro a
  match a with
  | ⟨0, _⟩ => show (Scalar.indexCast _).toNat + 1 ≤ 32; rw [e]; omega
  | ⟨1, _⟩ => show 0 + 512 ≤ 512; omega

/-- A load of a key or value window. -/
theorem readAt_koff (c : Dev nD) (M : Memref sig .tc .vmem S8x4096x64 .f32) (f : Bf (F := F) c M) (n : Fin 4) (i : grid0.Coords)
    (hn : n.val ≤ (i 0).val) (h : Fin 8) (W : ℕ) (hW : W ≤ 128 * (n.val + 1))
    (inb : ∀ a, koff i (BitVec.ofNat 32 n.val) h a + (⟨3, ![1, W, 64]⟩ : Shape).size a ≤ S8x4096x64.size a) :
    View.readAt (Elt F) M.view (Rect.unit (s := S8x4096x64) (koff i (BitVec.ofNat 32 n.val) h) (⟨3, ![1, W, 64]⟩ : Shape).size inb).toLoadRect f
      = kwin W ((i 0).val - n.val) h (M.view.read (Elt F) f) := by
  have e := (offs_nat n (i 0) hn).2
  have hi : (i 0).val < 32 := (i 0).isLt
  funext x
  have h1 : (x 1).val < W := (x 1).isLt
  have h0 : (x 0).val < 1 := (x 0).isLt
  show M.view.read (Elt F) f _ = M.view.read (Elt F) f _
  congr 1
  funext a
  match a with
  | ⟨0, _⟩ => exact Fin.ext (by show h.val + 1 * (x 0).val = h.val; omega)
  | ⟨1, _⟩ => exact Fin.ext (by
      show (Scalar.indexCast _).toNat + 1 * (x 1).val = (128 * ((i 0).val - n.val) + (x 1).val) % 4096
      rw [e]; omega)
  | ⟨2, _⟩ => exact Fin.ext (by show 0 + 1 * (x 2).val = (x 2).val; omega)

/-- A load of a row of the column metadata. -/
theorem readAt_coff (c : Dev nD) (M : Memref sig .tc .vmem S32x512 .i32) (f : Bf (F := F) c M) (n : Fin 4) (i : grid0.Coords)
    (hn : n.val ≤ (i 0).val) (inb : ∀ a, coff i (BitVec.ofNat 32 n.val) a + S1x512.size a ≤ S32x512.size a) :
    View.readAt (Elt F) M.view (Rect.unit (s := S32x512) (coff i (BitVec.ofNat 32 n.val)) S1x512.size inb).toLoadRect f
      = crow ((i 0).val - n.val) (M.view.read (Elt F) f) := by
  have e := (offs_nat n (i 0) hn).1
  have hi : (i 0).val < 32 := (i 0).isLt
  funext x
  have h0 : (x 0).val < 1 := (x 0).isLt
  show M.view.read (Elt F) f _ = M.view.read (Elt F) f _
  congr 1
  funext a
  match a with
  | ⟨0, _⟩ => exact Fin.ext (by
      show (Scalar.indexCast _).toNat + 1 * (x 0).val = ((i 0).val - n.val) % 32
      rw [e]; omega)
  | ⟨1, _⟩ => exact Fin.ext (by show 0 + 1 * (x 1).val = (x 1).val; omega)

end Cert.KernelIdeal.Body
end
-- ==== Proof.KernelIdeal.Run0.lean ====
module

public import proofs.«01_k».proof.Proof.KernelIdeal.Ask

@[expose] public section

set_option maxRecDepth 16384

noncomputable section

namespace Cert.KernelIdeal.Body

open Cert.KernelIdeal Cert.KernelIdeal.Gen Cert.Tokens
open Idealize.ShloMosaic
open Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR nD τ) ℕ

set_option maxHeartbeats 4000000 in
/-- A point whose tile starts past the last sequence: the output block is zero. -/
theorem run0 (c : Dev nD) (i : grid0.Coords)
    (M3 : Memref sig .tc .vmem S128x8x64 .f32) (h3 : M3.IsWhole) (M6 : Memref sig .tc .vmem S128x8x64 .f32) (h6 : M6.IsWhole)
    (T : Bf (F := F) c mT) (N : Bf (F := F) c mN) (f3 : Bf (F := F) c M3) (fK : Bf (F := F) c mK) (fV : Bf (F := F) c mV) (f6 : Bf (F := F) c M6)
    (E : Set ℕ) (hchk : chkW c i T) (hc2 : cnd2 c i T = 1#1) (hc3 : ¬ cnd3 c i T = 1#1) (hc4 : ¬ cnd4 c i T = 1#1) (hc5 : ¬ cnd5 c i T = 1#1) (hc6 : ¬ cnd6 c i T = 1#1) :
    iprop(pth c mT T ∗ pth c mN N ∗ pre34 c i T N ∗ pt c M3 f3 ∗ pt c mK fK ∗ pt c mV fV ∗ pt c M6 f6)
     ⊢ wp frame (wpE (defs₀ (F := F)) Variants.none c none) E
        (cc0__attn_kernel i mT (Memref.isWhole_whole _) mN (Memref.isWhole_whole _) M3 h3 mK (Memref.isWhole_whole _) mV (Memref.isWhole_whole _) M6 h6 mCb (Memref.isWhole_whole _) mCi (Memref.isWhole_whole _) mRb (Memref.isWhole_whole _) mRi (Memref.isWhole_whole _))
        (fun _ => iprop(pth c mT T ∗ pth c mN N ∗ metas c T N ∗ pt c M3 f3 ∗ pt c mK fK ∗ pt c mV fV ∗
          pt c M6 (M6.view.writes (Elt F) f6 [⟨Rect.unit (s := S128x8x64) ![0, 0, 0] S128x8x64.size inb_S128x8x64_S128x8x64_0_0_0, k0_pay125⟩]))) := by
  delta chkW cnd2 cnd3 cnd4 cnd5 cnd6 at *
  iintro ⟨HT, HN, Hm, H3, HK, HV, H6⟩
  unfold cc0__attn_kernel
  rw [wp_bind]
  iapply wp_wand_r frame (wpE (defs₀ (F := F)) Variants.none c none) E (Q := fun r => iprop(⌜r = words34 c i T N⌝ ∗ pth c mT T ∗ pth c mN N ∗ metas c T N))
  isplitl [HT HN Hm]
  · iapply part34 c i M3 h3 M6 h6 T N E
    isplitl [HT]; · iexact HT
    isplitl [HN]; · iexact HN
    iexact Hm
  iintro %r ⟨%hr, HT, HN, Hm⟩
  subst hr
  unfold words34
  unfold metas
  icases Hm with ⟨Hcb, Hci, Hrb, Hri⟩
  dsimp only
  sl_exec_parts (disch := exact hchk)
  sl_step
  isplitl [HT]; · iexact HT
  isplitl [HN]; · iexact HN
  isplitl [Hcb Hci Hrb Hri]
  · isplitl [Hcb]; · iexact Hcb
    isplitl [Hci]; · iexact Hci
    isplitl [Hrb]; · iexact Hrb
    iexact Hri
  isplitl [H3]; · iexact H3
  isplitl [HK]; · iexact HK
  isplitl [HV]; · iexact HV
  iexact H6

end Cert.KernelIdeal.Body
end
-- ==== Proof.KernelIdeal.Run1.lean ====
module

public import proofs.«01_k».proof.Proof.KernelIdeal.Ask

@[expose] public section

set_option maxRecDepth 16384

noncomputable section

namespace Cert.KernelIdeal.Body

open Cert.KernelIdeal Cert.KernelIdeal.Gen Cert.Tokens
open Idealize.ShloMosaic
open Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR nD τ) ℕ

/-- A point whose window is 1 tile wide. -/
def mask1 (c : Dev nD) (i : grid0.Coords) (T : Bf (F := F) c mT) (N : Bf (F := F) c mN) (cb ci : S1x512.Idx → BitVec 32) : FVec F S128x128 .f32 :=
  k0_pay66 (BitVec.ofNat 32 (i 0).val) (k0_pay122 (F := F) i (metaRb c T)) (k0_pay123 (F := F) i (metaRi c T N)) (k0_pay124 i) cb ci

set_option maxHeartbeats 4000000 in
theorem run1 (c : Dev nD) (i : grid0.Coords)
    (M3 : Memref sig .tc .vmem S128x8x64 .f32) (h3 : M3.IsWhole) (M6 : Memref sig .tc .vmem S128x8x64 .f32) (h6 : M6.IsWhole)
    (T : Bf (F := F) c mT) (N : Bf (F := F) c mN) (f3 : Bf (F := F) c M3) (fK : Bf (F := F) c mK) (fV : Bf (F := F) c mV) (f6 : Bf (F := F) c M6)
    (E : Set ℕ) (hn : 0 ≤ (i 0).val) (hchk : chkW c i T) (hc2 : ¬ cnd2 c i T = 1#1) (hc3 : cnd3 c i T = 1#1) (hc4 : ¬ cnd4 c i T = 1#1) (hc5 : ¬ cnd5 c i T = 1#1) (hc6 : ¬ cnd6 c i T = 1#1) :
    iprop(pth c mT T ∗ pth c mN N ∗ pre34 c i T N ∗ pt c M3 f3 ∗ pt c mK fK ∗ pt c mV fV ∗ pt c M6 f6)
     ⊢ wp frame (wpE (defs₀ (F := F)) Variants.none c none) E
        (cc0__attn_kernel i mT (Memref.isWhole_whole _) mN (Memref.isWhole_whole _) M3 h3 mK (Memref.isWhole_whole _) mV (Memref.isWhole_whole _) M6 h6 mCb (Memref.isWhole_whole _) mCi (Memref.isWhole_whole _) mRb (Memref.isWhole_whole _) mRi (Memref.isWhole_whole _))
        (fun _ => iprop(pth c mT T ∗ pth c mN N ∗ metas c T N ∗ pt c M3 f3 ∗ pt c mK fK ∗ pt c mV fV ∗
          pt c M6 (M6.view.writes (Elt F) f6 (pieces fun h => k0_pay69
            (mask1 c i T N (crow ((i 0).val - 0) (metaCb c T)) (crow ((i 0).val - 0) (metaCi c T N)))
            (qhead h (M3.view.read (Elt F) f3)) (kwin 128 ((i 0).val - 0) h fK) (kwin 128 ((i 0).val - 0) h fV))))) := by
  delta chkW cnd2 cnd3 cnd4 cnd5 cnd6 at *
  iintro ⟨HT, HN, Hm, H3, HK, HV, H6⟩
  unfold cc0__attn_kernel
  rw [wp_bind]
  iapply wp_wand_r frame (wpE (defs₀ (F := F)) Variants.none c none) E (Q := fun r => iprop(⌜r = words34 c i T N⌝ ∗ pth c mT T ∗ pth c mN N ∗ metas c T N))
  isplitl [HT HN Hm]
  · iapply part34 c i M3 h3 M6 h6 T N E
    isplitl [HT]; · iexact HT
    isplitl [HN]; · iexact HN
    iexact Hm
  iintro %r ⟨%hr, HT, HN, Hm⟩
  subst hr
  unfold words34
  unfold metas
  icases Hm with ⟨Hcb, Hci, Hrb, Hri⟩
  dsimp only
  sl_exec_parts (disch := exact hchk)
  sl_step
  isplitl [HT]; · iexact HT
  isplitl [HN]; · iexact HN
  isplitl [Hcb Hci Hrb Hri]
  · isplitl [Hcb]; · iexact Hcb
    isplitl [Hci]; · iexact Hci
    isplitl [Hrb]; · iexact Hrb
    iexact Hri
  isplitl [H3]; · iexact H3
  isplitl [HK]; · iexact HK
  isplitl [HV]; · iexact HV
  have ik : ∀ (h : Fin 8) a, koff i 0#32 h a + S1x128x64.size a ≤ S8x4096x64.size a := fun h => inb_koff 0 i hn h 128 (by decide)
  have ic : ∀ a, coff i 0#32 a + S1x512.size a ≤ S32x512.size a := inb_coff 0 i hn
  have eq : ∀ h, qhead h (M3.view.read (Elt F) f3) = View.readAt (Elt F) M3.view (headRect h).toLoadRect f3 := fun h => (readAt_head c M3 f3 h).symm
  have eK : ∀ h, kwin 128 ((i 0).val - 0) h fK = View.readAt (Elt F) mK.view (Rect.unit (s := S8x4096x64) (koff i 0#32 h) S1x128x64.size (ik h)).toLoadRect fK :=
    fun h => (readAt_koff c mK fK 0 i hn h 128 (by decide) (ik h)).symm
  have eV : ∀ h, kwin 128 ((i 0).val - 0) h fV = View.readAt (Elt F) mV.view (Rect.unit (s := S8x4096x64) (koff i 0#32 h) S1x128x64.size (ik h)).toLoadRect fV :=
    fun h => (readAt_koff c mV fV 0 i hn h 128 (by decide) (ik h)).symm
  have eb : crow ((i 0).val - 0) (metaCb c T) = View.readAt (Elt F) mCb.view (Rect.unit (s := S32x512) (coff i 0#32) S1x512.size ic).toLoadRect (metaCb c T) :=
    (readAt_coff c mCb (metaCb c T) 0 i hn ic).symm
  have ei : crow ((i 0).val - 0) (metaCi c T N) = View.readAt (Elt F) mCi.view (Rect.unit (s := S32x512) (coff i 0#32) S1x512.size ic).toLoadRect (metaCi c T N) :=
    (readAt_coff c mCi (metaCi c T N) 0 i hn ic).symm
  simp only [eq, eK, eV]
  rw [eb, ei]
  iexact H6

end Cert.KernelIdeal.Body
end
-- ==== Proof.KernelIdeal.Run2.lean ====
module

public import proofs.«01_k».proof.Proof.KernelIdeal.Ask

@[expose] public section

set_option maxRecDepth 16384

noncomputable section

namespace Cert.KernelIdeal.Body

open Cert.KernelIdeal Cert.KernelIdeal.Gen Cert.Tokens
open Idealize.ShloMosaic
open Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR nD τ) ℕ

/-- A point whose window is 2 tiles wide. -/
def mask2 (c : Dev nD) (i : grid0.Coords) (T : Bf (F := F) c mT) (N : Bf (F := F) c mN) (cb ci : S1x512.Idx → BitVec 32) : FVec F S128x256 .f32 :=
  k0_pay79 (BitVec.ofNat 32 (i 0).val) (k0_pay122 (F := F) i (metaRb c T)) (k0_pay123 (F := F) i (metaRi c T N)) (k0_pay124 i) cb ci

set_option maxHeartbeats 4000000 in
theorem run2 (c : Dev nD) (i : grid0.Coords)
    (M3 : Memref sig .tc .vmem S128x8x64 .f32) (h3 : M3.IsWhole) (M6 : Memref sig .tc .vmem S128x8x64 .f32) (h6 : M6.IsWhole)
    (T : Bf (F := F) c mT) (N : Bf (F := F) c mN) (f3 : Bf (F := F) c M3) (fK : Bf (F := F) c mK) (fV : Bf (F := F) c mV) (f6 : Bf (F := F) c M6)
    (E : Set ℕ) (hn : 1 ≤ (i 0).val) (hchk : chkW c i T) (hc2 : ¬ cnd2 c i T = 1#1) (hc3 : ¬ cnd3 c i T = 1#1) (hc4 : cnd4 c i T = 1#1) (hc5 : ¬ cnd5 c i T = 1#1) (hc6 : ¬ cnd6 c i T = 1#1) :
    iprop(pth c mT T ∗ pth c mN N ∗ pre34 c i T N ∗ pt c M3 f3 ∗ pt c mK fK ∗ pt c mV fV ∗ pt c M6 f6)
     ⊢ wp frame (wpE (defs₀ (F := F)) Variants.none c none) E
        (cc0__attn_kernel i mT (Memref.isWhole_whole _) mN (Memref.isWhole_whole _) M3 h3 mK (Memref.isWhole_whole _) mV (Memref.isWhole_whole _) M6 h6 mCb (Memref.isWhole_whole _) mCi (Memref.isWhole_whole _) mRb (Memref.isWhole_whole _) mRi (Memref.isWhole_whole _))
        (fun _ => iprop(pth c mT T ∗ pth c mN N ∗ metas c T N ∗ pt c M3 f3 ∗ pt c mK fK ∗ pt c mV fV ∗
          pt c M6 (M6.view.writes (Elt F) f6 (pieces fun h => k0_pay82
            (mask2 c i T N (crow ((i 0).val - 1) (metaCb c T)) (crow ((i 0).val - 1) (metaCi c T N)))
            (qhead h (M3.view.read (Elt F) f3)) (kwin 256 ((i 0).val - 1) h fK) (kwin 256 ((i 0).val - 1) h fV))))) := by
  delta chkW cnd2 cnd3 cnd4 cnd5 cnd6 at *
  iintro ⟨HT, HN, Hm, H3, HK, HV, H6⟩
  unfold cc0__attn_kernel
  rw [wp_bind]
  iapply wp_wand_r frame (wpE (defs₀ (F := F)) Variants.none c none) E (Q := fun r => iprop(⌜r = words34 c i T N⌝ ∗ pth c mT T ∗ pth c mN N ∗ metas c T N))
  isplitl [HT HN Hm]
  · iapply part34 c i M3 h3 M6 h6 T N E
    isplitl [HT]; · iexact HT
    isplitl [HN]; · iexact HN
    iexact Hm
  iintro %r ⟨%hr, HT, HN, Hm⟩
  subst hr
  unfold words34
  unfold metas
  icases Hm with ⟨Hcb, Hci, Hrb, Hri⟩
  dsimp only
  sl_exec_parts (disch := exact hchk)
  sl_step
  isplitl [HT]; · iexact HT
  isplitl [HN]; · iexact HN
  isplitl [Hcb Hci Hrb Hri]
  · isplitl [Hcb]; · iexact Hcb
    isplitl [Hci]; · iexact Hci
    isplitl [Hrb]; · iexact Hrb
    iexact Hri
  isplitl [H3]; · iexact H3
  isplitl [HK]; · iexact HK
  isplitl [HV]; · iexact HV
  have ik : ∀ (h : Fin 8) a, koff i 1#32 h a + S1x256x64.size a ≤ S8x4096x64.size a := fun h => inb_koff 1 i hn h 256 (by decide)
  have ic : ∀ a, coff i 1#32 a + S1x512.size a ≤ S32x512.size a := inb_coff 1 i hn
  have eq : ∀ h, qhead h (M3.view.read (Elt F) f3) = View.readAt (Elt F) M3.view (headRect h).toLoadRect f3 := fun h => (readAt_head c M3 f3 h).symm
  have eK : ∀ h, kwin 256 ((i 0).val - 1) h fK = View.readAt (Elt F) mK.view (Rect.unit (s := S8x4096x64) (koff i 1#32 h) S1x256x64.size (ik h)).toLoadRect fK :=
    fun h => (readAt_koff c mK fK 1 i hn h 256 (by decide) (ik h)).symm
  have eV : ∀ h, kwin 256 ((i 0).val - 1) h fV = View.readAt (Elt F) mV.view (Rect.unit (s := S8x4096x64) (koff i 1#32 h) S1x256x64.size (ik h)).toLoadRect fV :=
    fun h => (readAt_koff c mV fV 1 i hn h 256 (by decide) (ik h)).symm
  have eb : crow ((i 0).val - 1) (metaCb c T) = View.readAt (Elt F) mCb.view (Rect.unit (s := S32x512) (coff i 1#32) S1x512.size ic).toLoadRect (metaCb c T) :=
    (readAt_coff c mCb (metaCb c T) 1 i hn ic).symm
  have ei : crow ((i 0).val - 1) (metaCi c T N) = View.readAt (Elt F) mCi.view (Rect.unit (s := S32x512) (coff i 1#32) S1x512.size ic).toLoadRect (metaCi c T N) :=
    (readAt_coff c mCi (metaCi c T N) 1 i hn ic).symm
  simp only [eq, eK, eV]
  rw [eb, ei]
  iexact H6

end Cert.KernelIdeal.Body
end
-- ==== Proof.KernelIdeal.Run3.lean ====
module

public import proofs.«01_k».proof.Proof.KernelIdeal.Ask

@[expose] public section

set_option maxRecDepth 16384

noncomputable section

namespace Cert.KernelIdeal.Body

open Cert.KernelIdeal Cert.KernelIdeal.Gen Cert.Tokens
open Idealize.ShloMosaic
open Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR nD τ) ℕ

/-- A point whose window is 3 tiles wide. -/
def mask3 (c : Dev nD) (i : grid0.Coords) (T : Bf (F := F) c mT) (N : Bf (F := F) c mN) (cb ci : S1x512.Idx → BitVec 32) : FVec F S128x384 .f32 :=
  k0_pay92 (BitVec.ofNat 32 (i 0).val) (k0_pay122 (F := F) i (metaRb c T)) (k0_pay123 (F := F) i (metaRi c T N)) (k0_pay124 i) cb ci

set_option maxHeartbeats 4000000 in
theorem run3 (c : Dev nD) (i : grid0.Coords)
    (M3 : Memref sig .tc .vmem S128x8x64 .f32) (h3 : M3.IsWhole) (M6 : Memref sig .tc .vmem S128x8x64 .f32) (h6 : M6.IsWhole)
    (T : Bf (F := F) c mT) (N : Bf (F := F) c mN) (f3 : Bf (F := F) c M3) (fK : Bf (F := F) c mK) (fV : Bf (F := F) c mV) (f6 : Bf (F := F) c M6)
    (E : Set ℕ) (hn : 2 ≤ (i 0).val) (hchk : chkW c i T) (hc2 : ¬ cnd2 c i T = 1#1) (hc3 : ¬ cnd3 c i T = 1#1) (hc4 : ¬ cnd4 c i T = 1#1) (hc5 : cnd5 c i T = 1#1) (hc6 : ¬ cnd6 c i T = 1#1) :
    iprop(pth c mT T ∗ pth c mN N ∗ pre34 c i T N ∗ pt c M3 f3 ∗ pt c mK fK ∗ pt c mV fV ∗ pt c M6 f6)
     ⊢ wp frame (wpE (defs₀ (F := F)) Variants.none c none) E
        (cc0__attn_kernel i mT (Memref.isWhole_whole _) mN (Memref.isWhole_whole _) M3 h3 mK (Memref.isWhole_whole _) mV (Memref.isWhole_whole _) M6 h6 mCb (Memref.isWhole_whole _) mCi (Memref.isWhole_whole _) mRb (Memref.isWhole_whole _) mRi (Memref.isWhole_whole _))
        (fun _ => iprop(pth c mT T ∗ pth c mN N ∗ metas c T N ∗ pt c M3 f3 ∗ pt c mK fK ∗ pt c mV fV ∗
          pt c M6 (M6.view.writes (Elt F) f6 (pieces fun h => k0_pay95
            (mask3 c i T N (crow ((i 0).val - 2) (metaCb c T)) (crow ((i 0).val - 2) (metaCi c T N)))
            (qhead h (M3.view.read (Elt F) f3)) (kwin 384 ((i 0).val - 2) h fK) (kwin 384 ((i 0).val - 2) h fV))))) := by
  delta chkW cnd2 cnd3 cnd4 cnd5 cnd6 at *
  iintro ⟨HT, HN, Hm, H3, HK, HV, H6⟩
  unfold cc0__attn_kernel
  rw [wp_bind]
  iapply wp_wand_r frame (wpE (defs₀ (F := F)) Variants.none c none) E (Q := fun r => iprop(⌜r = words34 c i T N⌝ ∗ pth c mT T ∗ pth c mN N ∗ metas c T N))
  isplitl [HT HN Hm]
  · iapply part34 c i M3 h3 M6 h6 T N E
    isplitl [HT]; · iexact HT
    isplitl [HN]; · iexact HN
    iexact Hm
  iintro %r ⟨%hr, HT, HN, Hm⟩
  subst hr
  unfold words34
  unfold metas
  icases Hm with ⟨Hcb, Hci, Hrb, Hri⟩
  dsimp only
  sl_exec_parts (disch := exact hchk)
  sl_step
  isplitl [HT]; · iexact HT
  isplitl [HN]; · iexact HN
  isplitl [Hcb Hci Hrb Hri]
  · isplitl [Hcb]; · iexact Hcb
    isplitl [Hci]; · iexact Hci
    isplitl [Hrb]; · iexact Hrb
    iexact Hri
  isplitl [H3]; · iexact H3
  isplitl [HK]; · iexact HK
  isplitl [HV]; · iexact HV
  have ik : ∀ (h : Fin 8) a, koff i 2#32 h a + S1x384x64.size a ≤ S8x4096x64.size a := fun h => inb_koff 2 i hn h 384 (by decide)
  have ic : ∀ a, coff i 2#32 a + S1x512.size a ≤ S32x512.size a := inb_coff 2 i hn
  have eq : ∀ h, qhead h (M3.view.read (Elt F) f3) = View.readAt (Elt F) M3.view (headRect h).toLoadRect f3 := fun h => (readAt_head c M3 f3 h).symm
  have eK : ∀ h, kwin 384 ((i 0).val - 2) h fK = View.readAt (Elt F) mK.view (Rect.unit (s := S8x4096x64) (koff i 2#32 h) S1x384x64.size (ik h)).toLoadRect fK :=
    fun h => (readAt_koff c mK fK 2 i hn h 384 (by decide) (ik h)).symm
  have eV : ∀ h, kwin 384 ((i 0).val - 2) h fV = View.readAt (Elt F) mV.view (Rect.unit (s := S8x4096x64) (koff i 2#32 h) S1x384x64.size (ik h)).toLoadRect fV :=
    fun h => (readAt_koff c mV fV 2 i hn h 384 (by decide) (ik h)).symm
  have eb : crow ((i 0).val - 2) (metaCb c T) = View.readAt (Elt F) mCb.view (Rect.unit (s := S32x512) (coff i 2#32) S1x512.size ic).toLoadRect (metaCb c T) :=
    (readAt_coff c mCb (metaCb c T) 2 i hn ic).symm
  have ei : crow ((i 0).val - 2) (metaCi c T N) = View.readAt (Elt F) mCi.view (Rect.unit (s := S32x512) (coff i 2#32) S1x512.size ic).toLoadRect (metaCi c T N) :=
    (readAt_coff c mCi (metaCi c T N) 2 i hn ic).symm
  simp only [eq, eK, eV]
  rw [eb, ei]
  iexact H6

end Cert.KernelIdeal.Body
end
-- ==== Proof.KernelIdeal.Run4.lean ====
module

public import proofs.«01_k».proof.Proof.KernelIdeal.Ask

@[expose] public section

set_option maxRecDepth 16384

noncomputable section

namespace Cert.KernelIdeal.Body

open Cert.KernelIdeal Cert.KernelIdeal.Gen Cert.Tokens
open Idealize.ShloMosaic
open Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR nD τ) ℕ

/-- A point whose window is 4 tiles wide. -/
def mask4 (c : Dev nD) (i : grid0.Coords) (T : Bf (F := F) c mT) (N : Bf (F := F) c mN) (cb ci : S1x512.Idx → BitVec 32) : FVec F S128x512 .f32 :=
  k0_pay105 (BitVec.ofNat 32 (i 0).val) (k0_pay122 (F := F) i (metaRb c T)) (k0_pay123 (F := F) i (metaRi c T N)) (k0_pay124 i) cb ci

set_option maxHeartbeats 4000000 in
theorem run4 (c : Dev nD) (i : grid0.Coords)
    (M3 : Memref sig .tc .vmem S128x8x64 .f32) (h3 : M3.IsWhole) (M6 : Memref sig .tc .vmem S128x8x64 .f32) (h6 : M6.IsWhole)
    (T : Bf (F := F) c mT) (N : Bf (F := F) c mN) (f3 : Bf (F := F) c M3) (fK : Bf (F := F) c mK) (fV : Bf (F := F) c mV) (f6 : Bf (F := F) c M6)
    (E : Set ℕ) (hn : 3 ≤ (i 0).val) (hchk : chkW c i T) (hc2 : ¬ cnd2 c i T = 1#1) (hc3 : ¬ cnd3 c i T = 1#1) (hc4 : ¬ cnd4 c i T = 1#1) (hc5 : ¬ cnd5 c i T = 1#1) (hc6 : cnd6 c i T = 1#1) :
    iprop(pth c mT T ∗ pth c mN N ∗ pre34 c i T N ∗ pt c M3 f3 ∗ pt c mK fK ∗ pt c mV fV ∗ pt c M6 f6)
     ⊢ wp frame (wpE (defs₀ (F := F)) Variants.none c none) E
        (cc0__attn_kernel i mT (Memref.isWhole_whole _) mN (Memref.isWhole_whole _) M3 h3 mK (Memref.isWhole_whole _) mV (Memref.isWhole_whole _) M6 h6 mCb (Memref.isWhole_whole _) mCi (Memref.isWhole_whole _) mRb (Memref.isWhole_whole _) mRi (Memref.isWhole_whole _))
        (fun _ => iprop(pth c mT T ∗ pth c mN N ∗ metas c T N ∗ pt c M3 f3 ∗ pt c mK fK ∗ pt c mV fV ∗
          pt c M6 (M6.view.writes (Elt F) f6 (pieces fun h => k0_pay108
            (mask4 c i T N (crow ((i 0).val - 3) (metaCb c T)) (crow ((i 0).val - 3) (metaCi c T N)))
            (qhead h (M3.view.read (Elt F) f3)) (kwin 512 ((i 0).val - 3) h fK) (kwin 512 ((i 0).val - 3) h fV))))) := by
  delta chkW cnd2 cnd3 cnd4 cnd5 cnd6 at *
  iintro ⟨HT, HN, Hm, H3, HK, HV, H6⟩
  unfold cc0__attn_kernel
  rw [wp_bind]
  iapply wp_wand_r frame (wpE (defs₀ (F := F)) Variants.none c none) E (Q := fun r => iprop(⌜r = words34 c i T N⌝ ∗ pth c mT T ∗ pth c mN N ∗ metas c T N))
  isplitl [HT HN Hm]
  · iapply part34 c i M3 h3 M6 h6 T N E
    isplitl [HT]; · iexact HT
    isplitl [HN]; · iexact HN
    iexact Hm
  iintro %r ⟨%hr, HT, HN, Hm⟩
  subst hr
  unfold words34
  unfold metas
  icases Hm with ⟨Hcb, Hci, Hrb, Hri⟩
  dsimp only
  sl_exec_parts (disch := exact hchk)
  sl_step
  isplitl [HT]; · iexact HT
  isplitl [HN]; · iexact HN
  isplitl [Hcb Hci Hrb Hri]
  · isplitl [Hcb]; · iexact Hcb
    isplitl [Hci]; · iexact Hci
    isplitl [Hrb]; · iexact Hrb
    iexact Hri
  isplitl [H3]; · iexact H3
  isplitl [HK]; · iexact HK
  isplitl [HV]; · iexact HV
  have ik : ∀ (h : Fin 8) a, koff i 3#32 h a + S1x512x64.size a ≤ S8x4096x64.size a := fun h => inb_koff 3 i hn h 512 (by decide)
  have ic : ∀ a, coff i 3#32 a + S1x512.size a ≤ S32x512.size a := inb_coff 3 i hn
  have eq : ∀ h, qhead h (M3.view.read (Elt F) f3) = View.readAt (Elt F) M3.view (headRect h).toLoadRect f3 := fun h => (readAt_head c M3 f3 h).symm
  have eK : ∀ h, kwin 512 ((i 0).val - 3) h fK = View.readAt (Elt F) mK.view (Rect.unit (s := S8x4096x64) (koff i 3#32 h) S1x512x64.size (ik h)).toLoadRect fK :=
    fun h => (readAt_koff c mK fK 3 i hn h 512 (by decide) (ik h)).symm
  have eV : ∀ h, kwin 512 ((i 0).val - 3) h fV = View.readAt (Elt F) mV.view (Rect.unit (s := S8x4096x64) (koff i 3#32 h) S1x512x64.size (ik h)).toLoadRect fV :=
    fun h => (readAt_koff c mV fV 3 i hn h 512 (by decide) (ik h)).symm
  have eb : crow ((i 0).val - 3) (metaCb c T) = View.readAt (Elt F) mCb.view (Rect.unit (s := S32x512) (coff i 3#32) S1x512.size ic).toLoadRect (metaCb c T) :=
    (readAt_coff c mCb (metaCb c T) 3 i hn ic).symm
  have ei : crow ((i 0).val - 3) (metaCi c T N) = View.readAt (Elt F) mCi.view (Rect.unit (s := S32x512) (coff i 3#32) S1x512.size ic).toLoadRect (metaCi c T N) :=
    (readAt_coff c mCi (metaCi c T N) 3 i hn ic).symm
  simp only [eq, eK, eV]
  rw [eb, ei]
  iexact H6

end Cert.KernelIdeal.Body
end
-- ==== Proof.KernelIdeal.Point.lean ====
module

public import proofs.«01_k».proof.Proof.KernelIdeal.Run0
public import proofs.«01_k».proof.Proof.KernelIdeal.Run1
public import proofs.«01_k».proof.Proof.KernelIdeal.Run2
public import proofs.«01_k».proof.Proof.KernelIdeal.Run3
public import proofs.«01_k».proof.Proof.KernelIdeal.Run4

@[expose] public section

set_option maxRecDepth 16384

noncomputable section

namespace Cert.KernelIdeal.Body

open Cert.KernelIdeal Cert.KernelIdeal.Gen Cert.Tokens
open Idealize.ShloMosaic
open Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR nD τ) ℕ

/-- The width of a point's window, in tiles. -/
abbrev nT (c : Dev nD) (i : grid0.Coords) (T : Bf (F := F) c mT) : BitVec 32 := tiles (BitVec.ofNat 32 (i 0).val) (wd c T)

/-! The body's five questions are what that width is. -/
omit [FloatOps F] in
theorem cnd2_iff (c : Dev nD) (i : grid0.Coords) (T : Bf (F := F) c mT) : cnd2 c i T = 1#1 ↔ nT c i T = 0#32 :=
  (iff_of_eq (congrArg (· = 1#1) (show cnd2 c i T = Scalar.cmpi .ne (Scalar.extui (Scalar.cmpi .eq (nT c i T) 0#32)) 0#32 from rfl))).trans (ask_iff _ _)
omit [FloatOps F] in
theorem cnd3_iff (c : Dev nD) (i : grid0.Coords) (T : Bf (F := F) c mT) : cnd3 c i T = 1#1 ↔ nT c i T = 1#32 :=
  (iff_of_eq (congrArg (· = 1#1) (show cnd3 c i T = Scalar.cmpi .ne (Scalar.extui (Scalar.cmpi .eq (nT c i T) 1#32)) 0#32 from rfl))).trans (ask_iff _ _)
omit [FloatOps F] in
theorem cnd4_iff (c : Dev nD) (i : grid0.Coords) (T : Bf (F := F) c mT) : cnd4 c i T = 1#1 ↔ nT c i T = 2#32 :=
  (iff_of_eq (congrArg (· = 1#1) (show cnd4 c i T = Scalar.cmpi .ne (Scalar.extui (Scalar.cmpi .eq (nT c i T) 2#32)) 0#32 from rfl))).trans (ask_iff _ _)
omit [FloatOps F] in
theorem cnd5_iff (c : Dev nD) (i : grid0.Coords) (T : Bf (F := F) c mT) : cnd5 c i T = 1#1 ↔ nT c i T = 3#32 :=
  (iff_of_eq (congrArg (· = 1#1) (show cnd5 c i T = Scalar.cmpi .ne (Scalar.extui (Scalar.cmpi .eq (nT c i T) 3#32)) 0#32 from rfl))).trans (ask_iff _ _)
omit [FloatOps F] in
theorem cnd6_iff (c : Dev nD) (i : grid0.Coords) (T : Bf (F := F) c mT) : cnd6 c i T = 1#1 ↔ nT c i T = 4#32 :=
  (iff_of_eq (congrArg (· = 1#1) (show cnd6 c i T = Scalar.cmpi .ne (Scalar.extui (Scalar.cmpi .eq (nT c i T) 4#32)) 0#32 from rfl))).trans (ask_iff _ _)

/-- A window of the width its point has starts at a tile of the array. -/
theorem start_le (c : Dev nD) (i : grid0.Coords) (T : Bf (F := F) c mT) (h : Rag (wd c T)) (n : Fin 4)
    (hn : nT c i T = BitVec.ofNat 32 (n.val + 1)) : n.val ≤ (i 0).val := by
  rcases tiles_cases h (i 0) with ⟨e, -⟩ | ⟨m, b, e, hm, -⟩
  · have := e.symm.trans hn
    exfalso; clear hn; revert this; revert n; decide
  · have : m = n := by
      have := e.symm.trans hn
      revert this; clear hm hn e; revert m n; decide
    exact this ▸ hm

/-- The body's row check: every window it asks for lies in the array. -/
theorem chk (c : Dev nD) (i : grid0.Coords) (T : Bf (F := F) c mT) (h : Rag (wd c T)) : chkW c i T := by
  have k (n : Fin 4) (W : ℕ) (hW : W ≤ 128 * (n.val + 1)) (hn : nT c i T = BitVec.ofNat 32 (n.val + 1)) (g : Fin 8) :=
    inb_koff n i (start_le c i T h n hn) g W hW
  have q (n : Fin 4) (hn : nT c i T = BitVec.ofNat 32 (n.val + 1)) := inb_coff n i (start_le c i T h n hn)
  have k4 := fun e => k 1 256 (by decide) ((cnd4_iff c i T).mp e)
  have k5 := fun e => k 2 384 (by decide) ((cnd5_iff c i T).mp e)
  have k6 := fun e => k 3 512 (by decide) ((cnd6_iff c i T).mp e)
  exact ⟨fun e => q 1 ((cnd4_iff c i T).mp e), fun e => k4 e 0, fun e => k4 e 1, fun e => k4 e 2, fun e => k4 e 3, fun e => k4 e 4, fun e => k4 e 5, fun e => k4 e 6, fun e => k4 e 7,
    fun e => q 2 ((cnd5_iff c i T).mp e), fun e => k5 e 0, fun e => k5 e 1, fun e => k5 e 2, fun e => k5 e 3, fun e => k5 e 4, fun e => k5 e 5, fun e => k5 e 6, fun e => k5 e 7,
    fun e => q 3 ((cnd6_iff c i T).mp e), fun e => k6 e 0, fun e => k6 e 1, fun e => k6 e 2, fun e => k6 e 3, fun e => k6 e 4, fun e => k6 e 5, fun e => k6 e 6, fun e => k6 e 7⟩

/-! ## The block a point leaves -/

/-- Head `h` of the block, at a window of 1 tile. -/
def head1 (c : Dev nD) (i : grid0.Coords) (T : Bf (F := F) c mT) (N : Bf (F := F) c mN) (Q : S128x8x64.Idx → Elt F .f32)
    (K V : S8x4096x64.Idx → Elt F .f32) (h : Fin 8) : S128x1x64.Idx → Elt F .f32 :=
  k0_pay69 (mask1 c i T N (crow ((i 0).val - 0) (metaCb c T)) (crow ((i 0).val - 0) (metaCi c T N)))
    (qhead h Q) (kwin 128 ((i 0).val - 0) h K) (kwin 128 ((i 0).val - 0) h V)

/-- Head `h` of the block, at a window of 2 tiles. -/
def head2 (c : Dev nD) (i : grid0.Coords) (T : Bf (F := F) c mT) (N : Bf (F := F) c mN) (Q : S128x8x64.Idx → Elt F .f32)
    (K V : S8x4096x64.Idx → Elt F .f32) (h : Fin 8) : S128x1x64.Idx → Elt F .f32 :=
  k0_pay82 (mask2 c i T N (crow ((i 0).val - 1) (metaCb c T)) (crow ((i 0).val - 1) (metaCi c T N)))
    (qhead h Q) (kwin 256 ((i 0).val - 1) h K) (kwin 256 ((i 0).val - 1) h V)

/-- Head `h` of the block, at a window of 3 tiles. -/
def head3 (c : Dev nD) (i : grid0.Coords) (T : Bf (F := F) c mT) (N : Bf (F := F) c mN) (Q : S128x8x64.Idx → Elt F .f32)
    (K V : S8x4096x64.Idx → Elt F .f32) (h : Fin 8) : S128x1x64.Idx → Elt F .f32 :=
  k0_pay95 (mask3 c i T N (crow ((i 0).val - 2) (metaCb c T)) (crow ((i 0).val - 2) (metaCi c T N)))
    (qhead h Q) (kwin 384 ((i 0).val - 2) h K) (kwin 384 ((i 0).val - 2) h V)

/-- Head `h` of the block, at a window of 4 tiles. -/
def head4 (c : Dev nD) (i : grid0.Coords) (T : Bf (F := F) c mT) (N : Bf (F := F) c mN) (Q : S128x8x64.Idx → Elt F .f32)
    (K V : S8x4096x64.Idx → Elt F .f32) (h : Fin 8) : S128x1x64.Idx → Elt F .f32 :=
  k0_pay108 (mask4 c i T N (crow ((i 0).val - 3) (metaCb c T)) (crow ((i 0).val - 3) (metaCi c T N)))
    (qhead h Q) (kwin 512 ((i 0).val - 3) h K) (kwin 512 ((i 0).val - 3) h V)

/-- Eight heads as one block. -/
def ofHeads {α : Type} (g : Fin 8 → S128x1x64.Idx → α) : S128x8x64.Idx → α := fun y => g (y 1) (ix3 (n0 := 128) (n1 := 1) (y 0) 0 (y 2))

/-- The output block of a point, from the query block and the whole keys and values. -/
def blk (c : Dev nD) (i : grid0.Coords) (T : Bf (F := F) c mT) (N : Bf (F := F) c mN) (Q : S128x8x64.Idx → Elt F .f32)
    (K V : S8x4096x64.Idx → Elt F .f32) : S128x8x64.Idx → Elt F .f32 :=
  if nT c i T = 1#32 then ofHeads (head1 c i T N Q K V)
  else if nT c i T = 2#32 then ofHeads (head2 c i T N Q K V)
  else if nT c i T = 3#32 then ofHeads (head3 c i T N Q K V)
  else if nT c i T = 4#32 then ofHeads (head4 c i T N Q K V)
  else k0_pay125

/-- The body at a point: the metadata is built, the output block is the point's, and nothing else changes. -/
theorem point (c : Dev nD) (i : grid0.Coords)
    (M3 : Memref sig .tc .vmem S128x8x64 .f32) (h3 : M3.IsWhole) (M6 : Memref sig .tc .vmem S128x8x64 .f32) (h6 : M6.IsWhole)
    (T : Bf (F := F) c mT) (N : Bf (F := F) c mN) (f3 : Bf (F := F) c M3) (fK : Bf (F := F) c mK) (fV : Bf (F := F) c mV) (f6 : Bf (F := F) c M6)
    (E : Set ℕ) (h : Rag (wd c T)) :
    iprop(pth c mT T ∗ pth c mN N ∗ pre34 c i T N ∗ pt c M3 f3 ∗ pt c mK fK ∗ pt c mV fV ∗ pt c M6 f6)
     ⊢ wp frame (wpE (defs₀ (F := F)) Variants.none c none) E
        (cc0__attn_kernel i mT (Memref.isWhole_whole _) mN (Memref.isWhole_whole _) M3 h3 mK (Memref.isWhole_whole _) mV (Memref.isWhole_whole _) M6 h6 mCb (Memref.isWhole_whole _) mCi (Memref.isWhole_whole _) mRb (Memref.isWhole_whole _) mRi (Memref.isWhole_whole _))
        (fun _ => iprop(pth c mT T ∗ pth c mN N ∗ metas c T N ∗ pt c M3 f3 ∗ pt c mK fK ∗ pt c mV fV ∗
          ∃ f, ⌜M6.view.read (Elt F) f = blk c i T N (M3.view.read (Elt F) f3) fK fV⌝ ∗ pt c M6 f)) := by
  have cases : nT c i T = 0#32 ∨ nT c i T = 1#32 ∨ nT c i T = 2#32 ∨ nT c i T = 3#32 ∨ nT c i T = 4#32 := by
    rcases tiles_cases h (i 0) with ⟨e, -⟩ | ⟨m, b, e, -⟩
    · exact .inl e
    · refine .inr ?_
      unfold nT
      rw [e]; clear e; revert m; decide
  have done (f : Bf (F := F) c M6) (e : M6.view.read (Elt F) f = blk c i T N (M3.view.read (Elt F) f3) fK fV) :
      iprop(pth c mT T ∗ pth c mN N ∗ metas c T N ∗ pt c M3 f3 ∗ pt c mK fK ∗ pt c mV fV ∗ pt c M6 f)
       ⊢ iprop(pth c mT T ∗ pth c mN N ∗ metas c T N ∗ pt c M3 f3 ∗ pt c mK fK ∗ pt c mV fV ∗
          ∃ f, ⌜M6.view.read (Elt F) f = blk c i T N (M3.view.read (Elt F) f3) fK fV⌝ ∗ pt c M6 f) := by
    iintro ⟨HT, HN, Hm, H3, HK, HV, H6⟩
    isplitl [HT]; · iexact HT
    isplitl [HN]; · iexact HN
    isplitl [Hm]; · iexact Hm
    isplitl [H3]; · iexact H3
    isplitl [HK]; · iexact HK
    isplitl [HV]; · iexact HV
    iexists f
    isplitr
    · ipureintro; exact e
    iexact H6
  have no (x y : BitVec 32) (a : BitVec 1) (ha : a = 1#1 ↔ nT c i T = y) (e : nT c i T = x) (hxy : ¬ x = y) : ¬ a = 1#1 :=
    fun hh => hxy (e.symm.trans (ha.mp hh))
  have c2 := cnd2_iff c i T
  have c3 := cnd3_iff c i T
  have c4 := cnd4_iff c i T
  have c5 := cnd5_iff c i T
  have c6 := cnd6_iff c i T
  rcases cases with e | e | e | e | e
  · refine (run0 c i M3 h3 M6 h6 T N f3 fK fV f6 E (chk c i T h) (c2.mpr e) (no _ _ _ c3 e (by decide)) (no _ _ _ c4 e (by decide))
      (no _ _ _ c5 e (by decide)) (no _ _ _ c6 e (by decide))).trans (wp_mono _ _ _ fun _ => done _ ?_)
    rw [View.read_writes_full]
    unfold blk
    rw [e]; rfl
  · refine (run1 c i M3 h3 M6 h6 T N f3 fK fV f6 E (start_le c i T h 0 e) (chk c i T h) (no _ _ _ c2 e (by decide)) (c3.mpr e) (no _ _ _ c4 e (by decide)) (no _ _ _ c5 e (by decide)) (no _ _ _ c6 e (by decide))).trans (wp_mono _ _ _ fun _ => done _ ?_)
    rw [read_pieces]
    unfold blk
    rw [e]; rfl
  · refine (run2 c i M3 h3 M6 h6 T N f3 fK fV f6 E (start_le c i T h 1 e) (chk c i T h) (no _ _ _ c2 e (by decide)) (no _ _ _ c3 e (by decide)) (c4.mpr e) (no _ _ _ c5 e (by decide)) (no _ _ _ c6 e (by decide))).trans (wp_mono _ _ _ fun _ => done _ ?_)
    rw [read_pieces]
    unfold blk
    rw [e]; rfl
  · refine (run3 c i M3 h3 M6 h6 T N f3 fK fV f6 E (start_le c i T h 2 e) (chk c i T h) (no _ _ _ c2 e (by decide)) (no _ _ _ c3 e (by decide)) (no _ _ _ c4 e (by decide)) (c5.mpr e) (no _ _ _ c6 e (by decide))).trans (wp_mono _ _ _ fun _ => done _ ?_)
    rw [read_pieces]
    unfold blk
    rw [e]; rfl
  · refine (run4 c i M3 h3 M6 h6 T N f3 fK fV f6 E (start_le c i T h 3 e) (chk c i T h) (no _ _ _ c2 e (by decide)) (no _ _ _ c3 e (by decide)) (no _ _ _ c4 e (by decide)) (no _ _ _ c5 e (by decide)) (c6.mpr e)).trans (wp_mono _ _ _ fun _ => done _ ?_)
    rw [read_pieces]
    unfold blk
    rw [e]; rfl

end Cert.KernelIdeal.Body
end
-- ==== Proof.KernelIdeal.Whole.lean ====
module

public import proofs.«01_k».proof.Proof.KernelIdeal.Point
public import Idealize.ShloMosaic.Lib.Pipeline.FrameBody
@[expose] public section

set_option maxRecDepth 16384

noncomputable section

namespace Cert.KernelIdeal.Body

open Cert.KernelIdeal Cert.KernelIdeal.Gen Cert.Tokens
open Idealize.ShloMosaic
open Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

open Idealize.ShloMosaic.Pipeline (Dat BodyObligation)

variable {F : FTy → Type} [FloatOps F]

local notation "𝕄" => MT nD τ sig Unit (Elt F) ℕ (UR nD τ) ℕ

/-! # The whole run

The blocks of the grid, one after the other: what each window's buffer holds around a point, what the body carries from
point to point (the metadata, built at the first), and the launch. -/

section run

variable (m : (ℓ : Loc nD τ sig) → Buf (Elt F) ℓ)

/-- Every buffer when the grid starts: the keys and the values have been turned, nothing else has changed. -/
def V (c : Dev nD) (b : Ref sig .tc) : Buf (Elt F) ((c.tc : Thread nD τ).loc b) :=
  StableHlo.after (hostOps0 (F := F)) (fun b => m (c, b)) b

/-- The two tables as the grid finds them. -/
def tabs : (p : Fin 1) → (pcfgs (F := F) p).Adm := fun _ => ⟨fun k => V m 0 (pre0.ref k), trivial⟩

/-- The configuration at these tables. -/
abbrev cfg : Pipeline.Cfg sig Λ₀ := Pipeline.pin (pcfgs (F := F)) (tabs m) 0

abbrev Tof (c : Dev nD) : Bf (F := F) c mT := V m c main_arg3
abbrev Nof (c : Dev nD) : Bf (F := F) c mN := V m c main_arg4

/-- The blocks the three inputs' windows hold at point `t`. -/
def blkQ (c : Dev nD) (t : Fin (cfg m).N) : S128x8x64.Idx → Elt F .f32 :=
  (((cfg m).win (0 : Fin 4)).blk t).view.read (Elt F) (V m c main_arg0)
def blkK (c : Dev nD) (t : Fin (cfg m).N) : S8x4096x64.Idx → Elt F .f32 :=
  (((cfg m).win (1 : Fin 4)).blk t).view.read (Elt F) (V m c main_v0)
def blkV (c : Dev nD) (t : Fin (cfg m).N) : S8x4096x64.Idx → Elt F .f32 :=
  (((cfg m).win (2 : Fin 4)).blk t).view.read (Elt F) (V m c main_v1)

/-- What the metadata buffers hold before point `n`. -/
def carried (c : Dev nD) (n : ℕ) : sProp 𝕄 :=
  if n = 0 then iprop(∃ cb ci rb ri, pt c mCb cb ∗ pt c mCi ci ∗ pt c mRb rb ∗ pt c mRi ri) else metas c (Tof m c) (Nof m c)

/-- What the body carries before point `n`. -/
def Phi (c : Dev nD) (n : ℕ) : sProp 𝕄 :=
  iprop(carried m c n ∗ (∃ r, prngReg c r) ∗ pth c mT (Tof m c) ∗ pth c mN (Nof m c))

/-- The proof data: the inputs' windows keep their blocks, the result's is left at the block the body computes. -/
def dats (_ : Fin 1) (c : Dev nD) : Dat τ (Elt F) Unit ℕ (UR nD τ) ℕ (cfg m) c where
  A w := V m c (Pipeline.arrRef (cfg m).spec w)
  after w t := match w with
    | ⟨0, _⟩ => blkQ m c t
    | ⟨1, _⟩ => blkK m c t
    | ⟨2, _⟩ => blkV m c t
    | ⟨3, _⟩ => blk c (grid0.coords t) (Tof m c) (Nof m c) (blkQ m c t) (blkK m c t) (blkV m c t)
    | ⟨_ + 4, h⟩ => absurd h (Nat.not_lt.2 (Nat.le_add_left _ _))
  Φ n := Phi m c n.val
  q _ := fullShare
  owed _ := 0

theorem before0 (c : Dev nD) (t : Fin (cfg m).N) (d) : (dats m 0 c).before (0 : Fin 4) t d = blkQ m c t :=
  ((dats m 0 c).before_in_eq_fetched (0 : Fin 4) rfl (fun _ => rfl) (fun _ _ _ => rfl) (fun _ => rfl) t d).trans rfl
theorem before1 (c : Dev nD) (t : Fin (cfg m).N) (d) : (dats m 0 c).before (1 : Fin 4) t d = blkK m c t :=
  ((dats m 0 c).before_in_eq_fetched (1 : Fin 4) rfl (fun _ => rfl) (fun _ _ _ => rfl) (fun _ => rfl) t d).trans rfl
theorem before2 (c : Dev nD) (t : Fin (cfg m).N) (d) : (dats m 0 c).before (2 : Fin 4) t d = blkV m c t :=
  ((dats m 0 c).before_in_eq_fetched (2 : Fin 4) rfl (fun _ => rfl) (fun _ _ _ => rfl) (fun _ => rfl) t d).trans rfl

/-- The metadata are built at the first point only. -/
theorem first_iff : ∀ t : Fin grid0.N, firstC (grid0.coords t) = 1#1 ↔ t.val = 0 := by decide

theorem pre34_carried (c : Dev nD) (t : Fin grid0.N) : carried m c t.val ⊢ pre34 c (grid0.coords t) (Tof m c) (Nof m c) := by
  unfold carried pre34
  by_cases h : t.val = 0
  · rw [if_pos h, if_pos ((first_iff t).mpr h)]
  · rw [if_neg h, if_neg (fun e => h ((first_iff t).mp e))]

/-- The result's block changes at every point, so every point writes it back. -/
theorem flush3 (t : Fin (cfg m).N) : ((cfg m).win (3 : Fin 4)).flush t = true :=
  (by decide : ∀ t : Fin grid0.N, Pipeline.Window.flushOf grid0 true cc0_transform_3 t = true) t

/-- A whole memref held at contents `X` is its buffer held at contents that read as `X`. -/
theorem owns_isWhole (c : Dev nD) {sp : Space} {S : Shape} {e : EltTy} {M : Memref sig .tc sp S e} (h : M.IsWhole)
    (X : S.Idx → Elt F e) : (owns (c : Thread nD τ) M fullShare X : sProp 𝕄) = iprop(∃ f, ⌜M.view.read (Elt F) f = X⌝ ∗ pt c M f) := by
  obtain ⟨b, hsp, hsh, he, h⟩ := h
  subst hsp hsh he
  cases h
  unfold owns
  simp only [Memref.view_whole, View.set_whole]

/-- What the body carries after a point: the metadata built. -/
theorem carried_succ (c : Dev nD) (n : ℕ) : carried m c (n + 1) = metas c (Tof m c) (Nof m c) := by
  unfold carried
  rw [if_neg (Nat.succ_ne_zero n)]

variable (hR : ∀ c, Rag (wd c (Tof m c)))

include hR in
/-- The body at a point, on any staging buffers for the queries and the result. -/
theorem body_core (c : Dev nD) (t : Fin grid0.N) (M3 : Memref sig .tc .vmem S128x8x64 .f32) (h3 : M3.IsWhole)
    (M6 : Memref sig .tc .vmem S128x8x64 .f32) (h6 : M6.IsWhole) (XQ : S128x8x64.Idx → Elt F .f32) (XK XV : S8x4096x64.Idx → Elt F .f32) :
    iprop(Phi m c t.val ∗ owns (c : Thread nD τ) M3 fullShare XQ ∗ owns (c : Thread nD τ) mK fullShare XK
        ∗ owns (c : Thread nD τ) mV fullShare XV ∗ (∃ X, owns (c : Thread nD τ) M6 fullShare X))
     ⊢ wp frame (wpE (defs₀ (F := F)) Variants.none c none) Set.univ
        (cc0__attn_kernel (grid0.coords t) mT (Memref.isWhole_whole _) mN (Memref.isWhole_whole _) M3 h3 mK (Memref.isWhole_whole _) mV (Memref.isWhole_whole _) M6 h6 mCb (Memref.isWhole_whole _) mCi (Memref.isWhole_whole _) mRb (Memref.isWhole_whole _) mRi (Memref.isWhole_whole _))
        fun _ => iprop(Phi m c (t.val + 1) ∗ owns (c : Thread nD τ) M3 fullShare XQ ∗ owns (c : Thread nD τ) mK fullShare XK
          ∗ owns (c : Thread nD τ) mV fullShare XV
          ∗ owns (c : Thread nD τ) M6 fullShare (blk c (grid0.coords t) (Tof m c) (Nof m c) XQ XK XV)) := by
  simp only [owns_isWhole c h3, owns_isWhole c h6]
  rw [show (owns (c : Thread nD τ) mK fullShare XK : sProp 𝕄) = pt c mK XK from owns_whole _ _ _ _,
    show (owns (c : Thread nD τ) mV fullShare XV : sProp 𝕄) = pt c mV XV from owns_whole _ _ _ _]
  unfold Phi
  rw [carried_succ]
  iintro ⟨⟨Hc, Hp, HT, HN⟩, ⟨%f3, %e3, H3⟩, HK, HV, ⟨%X, %f6, -, H6⟩⟩
  subst e3
  iapply (wp_wand_r frame (wpE (defs₀ (F := F)) Variants.none c none) Set.univ)
  isplitl [Hc HT HN H3 HK HV H6]
  · iapply (point c (grid0.coords t) M3 h3 M6 h6 (Tof m c) (Nof m c) f3 XK XV f6 Set.univ (hR c))
    isplitl [HT]; · iexact HT
    isplitl [HN]; · iexact HN
    isplitl [Hc]; · iapply pre34_carried m c t; iexact Hc
    isplitl [H3]; · iexact H3
    isplitl [HK]; · iexact HK
    isplitl [HV]; · iexact HV
    iexact H6
  iintro %r ⟨HT, HN, Hm, H3, HK, HV, ⟨%f, %e, H6⟩⟩
  isplitl [Hm Hp HT HN]
  · isplitl [Hm]; · iexact Hm
    isplitl [Hp]; · iexact Hp
    isplitl [HT]; · iexact HT
    iexact HN
  isplitl [H3]
  · iexists f3
    isplitr
    · ipureintro; rfl
    iexact H3
  isplitl [HK]; · iexact HK
  isplitl [HV]; · iexact HV
  iexists f
  isplitr
  · ipureintro; exact e
  iexact H6

include hR in
/-- The body at a point, on whichever of the staging buffers the windows are at. -/
theorem body_at (c : Dev nD) (t : Fin grid0.N) (s : (w : Fin 4) → Fin (spec0 w).nbuf) (XQ : S128x8x64.Idx → Elt F .f32)
    (XK XV : S8x4096x64.Idx → Elt F .f32) :
    iprop(Phi m c t.val ∗ owns (c : Thread nD τ) (spec0_0.stage (s 0)) fullShare XQ ∗ owns (c : Thread nD τ) (spec0_1.stage (s 1)) fullShare XK
        ∗ owns (c : Thread nD τ) (spec0_2.stage (s 2)) fullShare XV ∗ (∃ X, owns (c : Thread nD τ) (spec0_3.stage (s 3)) fullShare X))
     ⊢ wp frame (wpE (defs₀ (F := F)) Variants.none c none) Set.univ (defs₀ (F := F) .tc 0 (t, s)) fun _ =>
        iprop(Phi m c (t.val + 1) ∗ owns (c : Thread nD τ) (spec0_0.stage (s 0)) fullShare XQ
          ∗ owns (c : Thread nD τ) (spec0_1.stage (s 1)) fullShare XK ∗ owns (c : Thread nD τ) (spec0_2.stage (s 2)) fullShare XV
          ∗ owns (c : Thread nD τ) (spec0_3.stage (s 3)) fullShare (blk c (grid0.coords t) (Tof m c) (Nof m c) XQ XK XV)) := by
  have key : ∀ x1 x2 : Fin 1,
      iprop(Phi m c t.val ∗ owns (c : Thread nD τ) (spec0_0.stage (s 0)) fullShare XQ ∗ owns (c : Thread nD τ) (stage0_1 x1) fullShare XK
        ∗ owns (c : Thread nD τ) (stage0_2 x2) fullShare XV ∗ (∃ X, owns (c : Thread nD τ) (spec0_3.stage (s 3)) fullShare X))
     ⊢ wp frame (wpE (defs₀ (F := F)) Variants.none c none) Set.univ
        (cc0__attn_kernel (grid0.coords t) mT (Memref.isWhole_whole _) mN (Memref.isWhole_whole _) (spec0_0.stage (s 0)) (hstage0_0 ((s 0).cast nbuf0_0)) (stage0_1 x1) (hstage0_1 x1) (stage0_2 x2) (hstage0_2 x2) (spec0_3.stage (s 3)) (hstage0_3 ((s 3).cast nbuf0_3)) mCb (Memref.isWhole_whole _) mCi (Memref.isWhole_whole _) mRb (Memref.isWhole_whole _) mRi (Memref.isWhole_whole _))
        fun _ => iprop(Phi m c (t.val + 1) ∗ owns (c : Thread nD τ) (spec0_0.stage (s 0)) fullShare XQ
          ∗ owns (c : Thread nD τ) (stage0_1 x1) fullShare XK ∗ owns (c : Thread nD τ) (stage0_2 x2) fullShare XV
          ∗ owns (c : Thread nD τ) (spec0_3.stage (s 3)) fullShare (blk c (grid0.coords t) (Tof m c) (Nof m c) XQ XK XV)) := by
    intro x1 x2
    obtain rfl : x1 = 0 := Subsingleton.elim _ _
    obtain rfl : x2 = 0 := Subsingleton.elim _ _
    exact body_core m hR c t _ _ _ _ XQ XK XV
  exact key (s 1) (s 2)

/-- A window that is not idle at a point, or whose block the point writes back, is left at what the data say. -/
theorem leaves_of {cf : Pipeline.Cfg sig Λ₀} {c : Dev nD} (dat : Dat τ (Elt F) Unit ℕ (UR nD τ) ℕ cf c) (w : Fin cf.W) (t : Fin cf.N)
    (h : cf.idle w (cf.grid.coords t) = false ∨ (cf.win w).flush t = true) :
    owns (c : Thread nD τ) ((cf.win w).stage (cf.slots t w)) fullShare (dat.after w t) ⊢ dat.leavesExact w t := by
  unfold Dat.leavesExact
  rcases h with h | h
  · rw [h]
  · rw [h]; cases cf.idle w (cf.grid.coords t) <;> exact .rfl

set_option maxHeartbeats 1000000 in
include hR in
/-- What the loop asks of the body. -/
theorem body_obligation (c : Dev nD) : BodyObligation (dats m 0 c) (defs₀ (F := F)) Variants.none () Set.univ := fun t => by
  suffices h : iprop((dats m 0 c).Φ t.castSucc ∗ (dats m 0 c).owesAt () t.castSucc
      ∗ bigSep Finset.univ fun w : Fin 4 => iprop(∃ d, owns (c : Thread nD τ) (((cfg m).win w).stage ((cfg m).slots t w)) fullShare ((dats m 0 c).before w t d)))
     ⊢ wp frame (wpE (defs₀ (F := F)) Variants.none c none) Set.univ (defs₀ (F := F) .tc 0 (t, (cfg m).slots t))
        fun _ => iprop((dats m 0 c).Φ t.succ ∗ (dats m 0 c).owesAt () t.succ
          ∗ bigSep Finset.univ fun w : Fin 4 => (dats m 0 c).leavesExact w t) from h
  rw [bigSep_W0, bigSep_W0]
  simp only [before0, before1, before2]
  rw [show (dats m 0 c).Φ t.castSucc = Phi m c t.val from rfl, show (dats m 0 c).Φ t.succ = Phi m c (t.val + 1) from rfl,
    show (dats m 0 c).owesAt () t.succ = (dats m 0 c).owesAt () t.castSucc from rfl]
  iintro ⟨HP, Howes, ⟨%d0, H0⟩, ⟨%d1, H1⟩, ⟨%d2, H2⟩, ⟨%d3, H3⟩⟩
  iapply (wp_wand_r frame (wpE (defs₀ (F := F)) Variants.none c none) Set.univ)
  isplitl [HP H0 H1 H2 H3]
  · iapply (body_at m hR c t ((cfg m).slots t) (blkQ m c t) (blkK m c t) (blkV m c t))
    isplitl [HP]; · iexact HP
    isplitl [H0]; · iexact H0
    isplitl [H1]; · iexact H1
    isplitl [H2]; · iexact H2
    iexists _; iexact H3
  iintro %r ⟨HP, H0, H1, H2, H3⟩
  isplitl [HP]; · iexact HP
  isplitl [Howes]; · iexact Howes
  isplitl [H0]; · iapply (leaves_of (dats m 0 c) (0 : Fin 4) t (.inl rfl)); iexact H0
  isplitl [H1]; · iapply (leaves_of (dats m 0 c) (1 : Fin 4) t (.inl rfl)); iexact H1
  isplitl [H2]; · iapply (leaves_of (dats m 0 c) (2 : Fin 4) t (.inl rfl)); iexact H2
  iapply (leaves_of (dats m 0 c) (3 : Fin 4) t (.inr (flush3 m t))); iexact H3

/-- The tables as the grid hands them to the body. -/
theorem tables_eq (c : Dev nD) : Pipeline.prefHeld (Ix := Unit) (Name := ℕ) (U := UR nD τ) (Lvl := ℕ) pre0 c (fun _ => fullShare.right) (tabs m 0).1
    = iprop(pth c mT (Tof m c) ∗ pth c mN (Nof m c)) := by
  obtain rfl : c = 0 := Subsingleton.elim _ _
  unfold Pipeline.prefHeld
  rw [show (Finset.univ : Finset (Fin 2)) = insert 0 {1} from by decide, bigSep_insert (by decide), bigSep_singleton]
  rfl

include hR in
/-- THE RUN: every fair execution ends, with every buffer as the data say. -/
theorem run_main (g : Dev nD → PrngReg) :
    θ_run (defs (F := F)) (onTc (τ := τ) (main (F := F))) ⟨m, fun _ => 0, g⟩
      (fun r => Pipeline.FramePost (Pipeline.pin (pcfgs (F := F)) (tabs m)) (dats m) 0 (V m) r ∧ r.2.sem = fun _ => 0) :=
  Pipeline.θ_run_frameP_track (pcfgs (F := F)) (tabs m) (dats m) 0 launch0 defs₀ Variants.none m g main
    (hbody := fun c => (body_obligation m hR c).loose)
    (hshare := fun c w => by unfold Dat.share; split <;> rfl)
    (howed := fun _ _ => rfl)
    (V := V m)
    (hmain := Pipeline.hmainP_prefix (pcfgs (F := F)) 0 defs₀ Variants.none m main hostOps0 hostOps0_sub ⟨rfl, rfl⟩ main_chain)
    (hA := fun _ _ => rfl)
    (hpf := fun c k => by obtain rfl : c = 0 := Subsingleton.elim _ _; rfl)
    (hin := fun c => by
      rw [show (dats m 0 c).Φ 0 = Phi m c 0 from rfl]
      unfold Phi carried Pipeline.ΦA Pipeline.ΦT
      rw [if_pos rfl, show Pipeline.scopedRest (Ix := Unit) (Name := ℕ) (U := UR nD τ) (Lvl := ℕ) (Val := Elt F) (cfg m).spec c = _ from scopedRest0_eq c,
        tables_eq m c]
      iintro ⟨⟨⟨⟨%cb, Hcb⟩, ⟨%ci, Hci⟩, ⟨%rb, Hrb⟩, ⟨%ri, Hri⟩⟩, Hp⟩, HT, HN⟩
      isplitl [Hcb Hci Hrb Hri]
      · iexists cb; iexists ci; iexists rb; iexists ri
        isplitl [Hcb]; · iexact Hcb
        isplitl [Hci]; · iexact Hci
        isplitl [Hrb]; · iexact Hrb
        iexact Hri
      isplitl [Hp]; · iexact Hp
      isplitl [HT]; · iexact HT
      iexact HN)
    (hout := fun c => by
      rw [show (dats m 0 c).Φ (Fin.last (cfg m).N) = Phi m c (31 + 1) from rfl]
      unfold Phi Pipeline.ΦA
      rw [carried_succ, show Pipeline.scopedRest (Ix := Unit) (Name := ℕ) (U := UR nD τ) (Lvl := ℕ) (Val := Elt F) (cfg m).spec c = _ from scopedRest0_eq c]
      unfold metas
      iintro ⟨⟨Hcb, Hci, Hrb, Hri⟩, Hp, -⟩
      isplitr [Hp]
      · isplitl [Hcb]; · iexists _; iexact Hcb
        isplitl [Hci]; · iexists _; iexact Hci
        isplitl [Hrb]; · iexists _; iexact Hrb
        iexists _; iexact Hri
      iexact Hp)
    (Q' := fun r => Pipeline.FramePost (Pipeline.pin (pcfgs (F := F)) (tabs m)) (dats m) 0 (V m) r ∧ r.2.sem = fun _ => 0)
    (hQ' := fun _ h => h)

end run

end Cert.KernelIdeal.Body
end
-- ==== Proof.KernelIdeal.Result.lean ====
module

public import proofs.«01_k».proof.Proof.KernelIdeal.Whole
public import proofs.«01_k».proof.Proof.Ragged
public import Idealize.ShloMosaic.Lib.Pipeline.ValueKit.Geometry
@[expose] public section

set_option maxRecDepth 16384

noncomputable section

namespace Cert.KernelIdeal.Body

open Cert.KernelIdeal Cert.KernelIdeal.Gen Cert.Tokens
open Idealize.ShloMosaic
open Idealize.ShloMosaic.TcCoe Idealize.ShloMosaic.Tactic Idealize.ShloMosaic.ValueIdx
open Idealize.SL Idealize.SL.RA Idealize.SL.BI
open scoped Idealize.SL.BI
open Idealize.ShloMosaic.Rounds
open Idealize.SL.BI.BIBase Idealize.SL.BI.Laws Idealize.SL.ProofMode Idealize.SL.Sem

open Idealize.ShloMosaic.Pipeline (Dat)

variable {F : FTy → Type} [FloatOps F]

local notation "𝕄" => MT nD τ sig Unit (Elt F) ℕ (UR nD τ) ℕ

/-! # The result and the arguments after the run -/

variable (m : (ℓ : Loc nD τ sig) → Buf (Elt F) ℓ)

theorem V_arg0 (c : Dev nD) : V m c main_arg0 = m ((c.tc : Thread nD τ).loc main_arg0) := rfl
theorem V_arg1 (c : Dev nD) : V m c main_arg1 = m ((c.tc : Thread nD τ).loc main_arg1) := rfl
theorem V_arg2 (c : Dev nD) : V m c main_arg2 = m ((c.tc : Thread nD τ).loc main_arg2) := rfl
theorem V_arg3 (c : Dev nD) : V m c main_arg3 = m ((c.tc : Thread nD τ).loc main_arg3) := rfl
theorem V_arg4 (c : Dev nD) : V m c main_arg4 = m ((c.tc : Thread nD τ).loc main_arg4) := rfl

theorem V_v0 (c : Dev nD) : V m c main_v0 = (transpose S8x4096x64 [1, 0, 2] (m ((c.tc : Thread nD τ).loc main_arg1) : S4096x8x64.Idx → Elt F .f32) transposes_S4096x8x64_S8x4096x64_1_0_2 : S8x4096x64.Idx → Elt F .f32) := rfl
theorem V_v1 (c : Dev nD) : V m c main_v1 = (transpose S8x4096x64 [1, 0, 2] (m ((c.tc : Thread nD τ).loc main_arg2) : S4096x8x64.Idx → Elt F .f32) transposes_S4096x8x64_S8x4096x64_1_0_2 : S8x4096x64.Idx → Elt F .f32) := rfl

/-- The precondition's table is the one the grid reads. -/
theorem rag_entry [Cert.Pre_ragged.Facts] (h : ∀ c : Dev nD, Cert.Pre_ragged.fn (F := F) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) = fun _ => 1#1) (c : Dev nD) : Rag (wd c (Tof m c)) := by
  have e : wd c (Tof m c) = fun k => (m ((c.tc : Thread nD τ).loc main_arg3) : S17.Idx → BitVec 32) (ix1 k) :=
    funext fun k => wd_eq c (Tof m c) k
  rw [e]
  exact rag_of_pre _ _ _ _ _ (h c)

/-- Every argument ends as it began. -/
theorem args_kept (r : PUnit × MemSt nD τ sig (Elt F)) (h : Pipeline.FramePost (Pipeline.pin (pcfgs (F := F)) (tabs m)) (dats m) 0 (V m) r)
    (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨h.in_eq c (0 : Fin 4) rfl,
    h.rest_eq c main_arg1 ((by decide : main_arg1 ∈ Pipeline.restRefs sig spec0)),
    h.rest_eq c main_arg2 ((by decide : main_arg2 ∈ Pipeline.restRefs sig spec0)),
    h.rest_eq c main_arg3 ((by decide : main_arg3 ∈ Pipeline.restRefs sig spec0)),
    h.rest_eq c main_arg4 ((by decide : main_arg4 ∈ Pipeline.restRefs sig spec0))⟩

/-- The tile's query rows, and the keys and the values turned. -/
def qrows (q : S4096x8x64.Idx → Elt F .f32) (r : Fin 32) : S128x8x64.Idx → Elt F .f32 :=
  fun y => q (ix3 (⟨128 * r.val + (y 0).val, by have h : (y 0).val < 128 := (y 0).isLt; omega⟩ : Fin 4096) (y 1 : Fin 8) (y 2 : Fin 64))
def turn (k : S4096x8x64.Idx → Elt F .f32) : S8x4096x64.Idx → Elt F .f32 :=
  fun y => k (ix3 (y 1 : Fin 4096) (y 0 : Fin 8) (y 2 : Fin 64))

theorem at_zero (a : Fin 3) (s z : ℕ) : (![0, 0, 0] : Fin 3 → ℕ) a * s + 1 * z = z := by
  rw [show (![0, 0, 0] : Fin 3 → ℕ) a = 0 from by revert a; decide]; omega

/-! The windows' blocks at each point: the queries' and the result's go tile by tile, the others stay. -/
theorem index0 : ∀ t : Fin grid0.N, cc0_transform_0 (grid0.coords t) = ![t.val, 0, 0] := by decide
theorem index1 : ∀ t : Fin grid0.N, cc0_transform_1 (grid0.coords t) = ![0, 0, 0] := by decide
theorem index2 : ∀ t : Fin grid0.N, cc0_transform_2 (grid0.coords t) = ![0, 0, 0] := by decide
theorem index3 : ∀ t : Fin grid0.N, cc0_transform_3 (grid0.coords t) = ![t.val, 0, 0] := by decide

theorem blkQ_eq (c : Dev nD) (t : Fin (cfg m).N) :
    blkQ m c t = qrows (m ((c.tc : Thread nD τ).loc main_arg0)) t := by
  funext y
  show (m ((c.tc : Thread nD τ).loc main_arg0) : S4096x8x64.Idx → Elt F .f32) _ = m ((c.tc : Thread nD τ).loc main_arg0) _
  congr 1
  funext a
  apply Fin.ext
  have e : ((((cfg m).win (0 : Fin 4)).blk t).view.emb y a).val = cc0_transform_0 (grid0.coords t) a * S128x8x64.size a + 1 * (y a).val := rfl
  rw [index0 t] at e
  refine e.trans ?_
  match a with
  | ⟨0, _⟩ => show t.val * 128 + 1 * (y 0).val = 128 * t.val + (y 0).val; omega
  | ⟨1, _⟩ => show 0 * 8 + 1 * (y 1).val = (y 1).val; omega
  | ⟨2, _⟩ => show 0 * 64 + 1 * (y 2).val = (y 2).val; omega
theorem blkK_eq (c : Dev nD) (t : Fin (cfg m).N) :
    blkK m c t = turn (m ((c.tc : Thread nD τ).loc main_arg1)) := by
  funext y
  have e : ∀ a : Fin 3, ((((cfg m).win (1 : Fin 4)).blk t).view.emb y a).val = (y a).val := fun a => by
    have e : ((((cfg m).win (1 : Fin 4)).blk t).view.emb y a).val = cc0_transform_1 (grid0.coords t) a * S8x4096x64.size a + 1 * (y a).val := rfl
    rw [index1 t] at e
    exact e.trans (at_zero a _ _)
  have e' : (((cfg m).win (1 : Fin 4)).blk t).view.emb y = y := funext fun a => Fin.ext (e a)
  have e2 : blkK m c t y = V m c main_v0 ((((cfg m).win (1 : Fin 4)).blk t).view.emb y) := rfl
  rw [e2, e', V_v0]
  unfold turn transpose
  congr 1
  funext a
  match a with
  | ⟨0, _⟩ => rfl
  | ⟨1, _⟩ => rfl
  | ⟨2, _⟩ => rfl
theorem blkV_eq (c : Dev nD) (t : Fin (cfg m).N) :
    blkV m c t = turn (m ((c.tc : Thread nD τ).loc main_arg2)) := by
  funext y
  have e : ∀ a : Fin 3, ((((cfg m).win (2 : Fin 4)).blk t).view.emb y a).val = (y a).val := fun a => by
    have e : ((((cfg m).win (2 : Fin 4)).blk t).view.emb y a).val = cc0_transform_2 (grid0.coords t) a * S8x4096x64.size a + 1 * (y a).val := rfl
    rw [index2 t] at e
    exact e.trans (at_zero a _ _)
  have e' : (((cfg m).win (2 : Fin 4)).blk t).view.emb y = y := funext fun a => Fin.ext (e a)
  have e2 : blkV m c t y = V m c main_v1 ((((cfg m).win (2 : Fin 4)).blk t).view.emb y) := rfl
  rw [e2, e', V_v1]
  unfold turn transpose
  congr 1
  funext a
  match a with
  | ⟨0, _⟩ => rfl
  | ⟨1, _⟩ => rfl
  | ⟨2, _⟩ => rfl

/-- The result: every row is what the body computes of its tile. -/
def outArr (c : Dev nD) : S4096x8x64.Idx → Elt F .f32 := fun x =>
  blk c (grid0.coords (⟨(x 0).val / 128, by have h : (x 0).val < 4096 := (x 0).isLt; rw [N_0]; omega⟩ : Fin grid0.N)) (Tof m c) (Nof m c)
    (qrows (m ((c.tc : Thread nD τ).loc main_arg0)) ⟨(x 0).val / 128, by have h : (x 0).val < 4096 := (x 0).isLt; omega⟩)
    (turn (m ((c.tc : Thread nD τ).loc main_arg1))) (turn (m ((c.tc : Thread nD τ).loc main_arg2)))
    (ix3 (⟨(x 0).val % 128, Nat.mod_lt _ (by decide)⟩ : Fin 128) (x 1 : Fin 8) (x 2 : Fin 64))

theorem outArr_at (c : Dev nD) (t : Fin grid0.N) (y : S128x8x64.Idx) (x : S4096x8x64.Idx) (e0 : (x 0).val = 128 * t.val + (y 0).val)
    (e1 : (x 1).val = (y 1).val) (e2 : (x 2).val = (y 2).val) :
    outArr m c x = blk c (grid0.coords t) (Tof m c) (Nof m c) (qrows (m ((c.tc : Thread nD τ).loc main_arg0)) t)
      (turn (m ((c.tc : Thread nD τ).loc main_arg1))) (turn (m ((c.tc : Thread nD τ).loc main_arg2))) y := by
  have hy : (y 0).val < 128 := (y 0).isLt
  have hx : (x 0).val < 4096 := (x 0).isLt
  have hd : (x 0).val / 128 = t.val := by omega
  unfold outArr
  have ey : (ix3 (⟨(x 0).val % 128, Nat.mod_lt _ (by decide)⟩ : Fin 128) (x 1 : Fin 8) (x 2 : Fin 64) : S128x8x64.Idx) = y := by
    funext a
    match a with
    | ⟨0, _⟩ => exact Fin.ext (by show (x 0).val % 128 = (y 0).val; omega)
    | ⟨1, _⟩ => exact Fin.ext e1
    | ⟨2, _⟩ => exact Fin.ext e2
  have et (h : (x 0).val / 128 < grid0.N) : (⟨(x 0).val / 128, h⟩ : Fin grid0.N) = t := Fin.ext hd
  have et' (h : (x 0).val / 128 < 32) : (⟨(x 0).val / 128, h⟩ : Fin 32) = t := Fin.ext hd
  rw [ey, et, et']

/-- The result's buffer after the run. -/
theorem out_eq (r : PUnit × MemSt nD τ sig (Elt F)) (h : Pipeline.FramePost (Pipeline.pin (pcfgs (F := F)) (tabs m)) (dats m) 0 (V m) r)
    (c : Dev nD) : r.2.mem ((c.tc : Thread nD τ).loc main_v2) = outArr m c := by
  refine (h.out_eq c (3 : Fin 4)).trans ((dats m 0 c).arrAt_eq_of_emb (3 : Fin 4) (outArr m c) (fun t _ y => ?_) fun i => ?_)
  · show blk c (grid0.coords t) (Tof m c) (Nof m c) (blkQ m c t) (blkK m c t) (blkV m c t) y = outArr m c _
    rw [blkQ_eq, blkK_eq, blkV_eq]
    have ht : t.val < 32 := t.isLt
    have hy : (y 0).val < 128 := (y 0).isLt
    have e : ∀ a, ((((cfg m).win (3 : Fin 4)).blk t).view.emb y a).val = (![t.val, 0, 0] : Fin 3 → ℕ) a * S128x8x64.size a + 1 * (y a).val :=
      fun a => by rw [← index3 t]; rfl
    have e0 : ((((cfg m).win (3 : Fin 4)).blk t).view.emb y (0 : Fin 3)).val = t.val * 128 + 1 * (y 0).val := e 0
    have e1 : ((((cfg m).win (3 : Fin 4)).blk t).view.emb y (1 : Fin 3)).val = 0 * 8 + 1 * (y 1).val := e 1
    have e2 : ((((cfg m).win (3 : Fin 4)).blk t).view.emb y (2 : Fin 3)).val = 0 * 64 + 1 * (y 2).val := e 2
    generalize (((cfg m).win (3 : Fin 4)).blk t).view.emb y = x at e0 e1 e2
    exact (outArr_at m c t y x (by omega) (by omega) (by omega)).symm
  · have hi : (i (0 : Fin 3)).val < 4096 := (i (0 : Fin 3)).isLt
    refine ⟨(⟨(i (0 : Fin 3)).val / 128, by rw [N_0]; omega⟩ : Fin grid0.N), flush3 m _, ?_⟩
    rw [View.set]
    refine Finset.mem_map.mpr ⟨(ix3 (⟨(i (0 : Fin 3)).val % 128, Nat.mod_lt _ (by decide)⟩ : Fin 128) (i (1 : Fin 3) : Fin 8) (i (2 : Fin 3) : Fin 64) : S128x8x64.Idx), Finset.mem_univ _, ?_⟩
    funext a
    apply Fin.ext
    have e (t : Fin grid0.N) (y : S128x8x64.Idx) (a : Fin 3) : ((((cfg m).win (3 : Fin 4)).blk t).view.emb y a).val = (![t.val, 0, 0] : Fin 3 → ℕ) a * S128x8x64.size a + 1 * (y a).val := by
      rw [← index3 t]; rfl
    refine (e _ _ a).trans ?_
    match a with
    | ⟨0, _⟩ => show (i (0 : Fin 3)).val / 128 * 128 + 1 * ((i (0 : Fin 3)).val % 128) = (i (0 : Fin 3)).val; omega
    | ⟨1, _⟩ => show 0 * 8 + 1 * (i (1 : Fin 3)).val = (i (1 : Fin 3)).val; omega
    | ⟨2, _⟩ => show 0 * 64 + 1 * (i (2 : Fin 3)).val = (i (2 : Fin 3)).val; omega

end Cert.KernelIdeal.Body
end
-- ==== Proof.Attend.lean ====
/- Ragged attention of one token, as a sum over the tokens of its sequence: the value that the kernel's windows and
   the reference's padded rows both have. -/
module

public import proofs.«01_k».proof.Proof.Tokens
public import Idealize.ShloMosaic.Lib.ValueIdx
public import Idealize.ShloMosaic.PureOps.Ideal
public import Idealize.ShloMosaic.Lib.IdealHost

@[expose] public section

noncomputable section

namespace Cert.Tokens

open Idealize.ShloMosaic Idealize.ShloMosaic.ValueIdx

/-- Queries, keys or values: 4096 tokens, 8 heads, 64 numbers each. -/
abbrev Rows := (⟨3, ![4096, 8, 64]⟩ : Shape).Idx → EReal

/-- Number `d` of head `h` of token `s` (of the last token, from there on). -/
def row (x : Rows) (s : ℕ) (h : Fin 8) (d : Fin 64) : EReal := x (ix3 (⟨min s 4095, by omega⟩ : Fin 4096) h d)

theorem row_clip (x : Rows) (s : ℕ) (h : Fin 8) (d : Fin 64) : row x (min s 4095) h d = row x s h d := by
  unfold row
  congr 2
  exact Fin.ext (by show min (min s 4095) 4095 = min s 4095; omega)

/-- The scale of the scores and the reciprocal of the longest length, as the programs' words. -/
abbrev scale : EReal := Ideal.ofBits .f32 0x3DB504F3#32
abbrev share : EReal := Ideal.ofBits .f32 0x3B000000#32

/-- The scaled score of token `s` for token `t`. -/
def score (q k : Rows) (t s : ℕ) (h : Fin 8) : EReal := (∑ e : Fin 64, row q t h e * row k s h e) * scale

/-- The identifier of token `s` in sequence `b`. -/
def ident (w : Fin 17 → BitVec 32) (n : Fin 16 → BitVec 32) (b : Fin 16) (s : ℕ) : BitVec 32 :=
  Scalar.minsi (Scalar.subi (BitVec.ofNat 32 s) (w b.castSucc)) (Scalar.subi (Scalar.subi (w b.succ) (w b.castSucc)) (n b))

/-- Token `t` attends to itself and to the tokens of a smaller identifier. -/
def sees (w : Fin 17 → BitVec 32) (n : Fin 16 → BitVec 32) (b : Fin 16) (t s : ℕ) : Prop :=
  s = t ∨ (ident w n b s).slt (ident w n b t) = true

/-- Token `s` is one of sequence `b`. -/
def inSeq (w : Fin 17 → BitVec 32) (b : Fin 16) (s : ℕ) : Prop := (w b.castSucc).toNat ≤ s ∧ s < (w b.succ).toNat

open Classical in
/-- What token `s` adds to number `d` of head `h` of token `t` of sequence `b`. -/
def part (q k v : Rows) (w : Fin 17 → BitVec 32) (n : Fin 16 → BitVec 32) (b : Fin 16) (t : ℕ) (h : Fin 8) (d : Fin 64) (s : ℕ) : EReal :=
  if inSeq w b s ∧ sees w n b t s then
    score q k t s h * Ideal.logistic (score q k t s h) * share * row v s h d
  else 0

/-- The minimum of two words, read signed. -/
theorem toInt_minsi (x y : BitVec 32) : (Scalar.minsi x y).toInt = min x.toInt y.toInt := by
  show (if x.slt y then x else y).toInt = _
  by_cases h : x.slt y = true
  · rw [if_pos h]; rw [BitVec.slt_eq_decide, decide_eq_true_iff] at h; omega
  · rw [if_neg h]; rw [BitVec.slt_eq_decide, decide_eq_true_iff] at h; omega

/-- The place of a token in its sequence does not wrap. -/
theorem toInt_place {w : Fin 17 → BitVec 32} (hR : Rag w) (b : Fin 16) (s : ℕ) (hs : inSeq w b s) :
    (Scalar.subi (BitVec.ofNat 32 s) (w b.castSucc)).toInt = (s : ℤ) - (w b.castSucc).toNat := by
  obtain ⟨h1, h2⟩ := hs
  have ht := hR.top b.succ
  have hst := (hR.step b).2
  have e : (Scalar.subi (BitVec.ofNat 32 s) (w b.castSucc)).toNat = s - (w b.castSucc).toNat := by
    show (BitVec.ofNat 32 s - w b.castSucc).toNat = _
    rw [BitVec.toNat_sub, BitVec.toNat_ofNat]; omega
  rw [BitVec.toInt_eq_toNat_of_lt (by omega), e]; omega

/-- A token attends to no later one. -/
theorem sees_le {w : Fin 17 → BitVec 32} (hR : Rag w) (n : Fin 16 → BitVec 32) (b : Fin 16) (t s : ℕ)
    (ht : inSeq w b t) (hs : inSeq w b s) (h : sees w n b t s) : s ≤ t := by
  rcases h with h | h
  · exact h.le
  · rw [BitVec.slt_eq_decide, decide_eq_true_iff] at h
    unfold ident at h
    rw [toInt_minsi, toInt_minsi, toInt_place hR b s hs, toInt_place hR b t ht] at h
    omega

/-- A sum over a window of tokens is the sum over any span outside of which nothing is added, if the window holds it. -/
theorem sum_span (f : ℕ → EReal) (a N lo hi : ℕ) (h1 : a ≤ lo) (h2 : hi ≤ a + N) (hf : ∀ s, s < lo ∨ hi ≤ s → f s = 0) :
    ∑ y : Fin N, f (a + y.val) = ∑ s ∈ Finset.Ico lo hi, f s := by
  have e : ∑ y : Fin N, f (a + y.val) = ∑ s ∈ Finset.Ico a (a + N), f s := by
    rw [Finset.sum_Ico_eq_sum_range, Nat.add_sub_cancel_left, Finset.sum_range]
  rw [e]
  refine (Finset.sum_subset (Finset.Ico_subset_Ico h1 h2) fun s _ hs => hf s ?_).symm
  rw [Finset.mem_Ico] at hs
  omega

/-- Nothing is added from outside the tokens from the sequence's start up to the token itself. -/
theorem part_outside {w : Fin 17 → BitVec 32} (hR : Rag w) (q k v : Rows) (n : Fin 16 → BitVec 32) (b : Fin 16) (t : ℕ) (h : Fin 8) (d : Fin 64)
    (ht : inSeq w b t) (s : ℕ) (hs : s < (w b.castSucc).toNat ∨ t + 1 ≤ s) : part q k v w n b t h d s = 0 := by
  refine if_neg fun hh => ?_
  have := sees_le hR n b t s ht hh.1 hh.2
  have := hh.1.1
  omega

/-- The scale is a number that is not negative. -/
theorem scale_real : ∃ r : ℝ, 0 ≤ r ∧ scale = (r : EReal) := by
  refine ⟨11863283 / 134217728, by norm_num, ?_⟩
  simp [scale, Ideal.ofBits, Ideal.ieee, -EReal.coe_mul]; norm_num

/-- So it goes in and out of a sum. -/
theorem scale_sum (f : Fin 64 → EReal) : (∑ e, f e) * scale = ∑ e, f e * scale := by
  obtain ⟨r, h0, hr⟩ := scale_real
  rw [hr]
  have hm : ∀ x y : EReal, (x + y) * (r : EReal) = x * r + y * r := fun x y =>
    EReal.right_distrib_of_nonneg_of_ne_top (by exact_mod_cast h0) (EReal.coe_ne_top r) x y
  let g : EReal →+ EReal := { toFun := fun x => x * (r : EReal), map_zero' := zero_mul _, map_add' := hm }
  exact map_sum g f Finset.univ

/-- The two forms of a division by 512. -/
theorem share_eq : share = ((1 / 512 : ℝ) : EReal) := by
  simp [share, Ideal.ofBits, Ideal.ieee, -EReal.coe_mul]; norm_num
theorem length_eq : Ideal.ofBits .f32 0x44000000#32 = ((512 : ℝ) : EReal) := by
  simp [Ideal.ofBits, Ideal.ieee, -EReal.coe_mul]; norm_num
theorem div_length (x : EReal) : Ideal.div x (Ideal.ofBits .f32 0x44000000#32) = x * share := by
  rw [length_eq, share_eq, Ideal.div_coe (by norm_num)]

end Cert.Tokens
end
-- ==== Proof.Codes.lean ====
/- What the kernel's metadata of two tokens decides: whether the one attends to the other, and what it adds then. -/
module

public import proofs.«01_k».proof.Proof.Attend

@[expose] public section

noncomputable section

namespace Cert.Tokens

open Idealize.ShloMosaic

variable {w : Fin 17 → BitVec 32}

/-! ## The metadata of a token of a sequence, and of one past the last -/

/-- The word of a token. -/
abbrev tw (t : ℕ) : BitVec 32 := BitVec.ofNat 32 t

theorem tw_toNat {t : ℕ} (h : t < 4096) : (tw t).toNat = t := by rw [BitVec.toNat_ofNat]; omega

/-- A token is in a sequence or past the last one. -/
theorem in_or_past (hR : Rag w) (t : ℕ) : (∃ b, inSeq w b t) ∨ (w 16).toNat ≤ t := by
  obtain ⟨b, hb⟩ := hR.exists_last t
  by_cases h16 : b = 16
  · subst h16; exact .inr ((hb 16).mpr le_rfl)
  · obtain ⟨b, rfl⟩ : ∃ b' : Fin 16, b = b'.castSucc := ⟨⟨b.val, by
      have := b.isLt; have : b.val ≠ 16 := fun e => h16 (Fin.ext e); omega⟩, rfl⟩
    refine .inl ⟨b, (hb b.castSucc).mpr le_rfl, ?_⟩
    by_contra hh
    exact absurd ((hb b.succ).mp (by omega)) (by simp [Fin.le_def])

theorem bOf_in (hR : Rag w) {t : ℕ} (h : t < 4096) {b : Fin 16} (hb : inSeq w b t) : bOf w (tw t) = tw b.val := by
  refine bOf_eq hR (b := b.castSucc) (by rw [tw_toNat h]; exact h) fun j => ?_
  rw [tw_toNat h]
  refine ⟨fun hj => ?_, fun hj => (hR.mono _ _ hj).trans hb.1⟩
  by_contra hh
  have := hR.mono b.succ j (by rw [Fin.le_def, Fin.val_succ]; rw [Fin.le_def, Fin.val_castSucc] at hh; omega)
  have := hb.2
  omega

theorem bOf_past (hR : Rag w) {t : ℕ} (h : t < 4096) (ht : (w 16).toNat ≤ t) : bOf w (tw t) = 16#32 :=
  bOf_eq hR (b := 16) (by rw [tw_toNat h]; exact h) fun j => by
    rw [tw_toNat h]; exact ⟨fun _ => Fin.le_last j, fun _ => (hR.mono j 16 (Fin.le_last j)).trans ht⟩

theorem seqOf_in (hR : Rag w) (k : BitVec 32) {t : ℕ} (h : t < 4096) {b : Fin 16} (hb : inSeq w b t) : seqOf w k (tw t) = tw b.val := by
  unfold seqOf
  rw [bOf_in hR h hb, show Scalar.cmpi .slt (tw b.val) 16#32 = 1#1 from by
    rw [show b.val = b.castSucc.val from rfl, slt_sixteen]; simp [b.isLt]]
  rfl

theorem seqOf_past (hR : Rag w) (k : BitVec 32) {t : ℕ} (h : t < 4096) (ht : (w 16).toNat ≤ t) : seqOf w k (tw t) = k + 2#32 * tw t := by
  unfold seqOf
  rw [bOf_past hR h ht]
  rfl

theorem idOf_in (hR : Rag w) (n : Fin 16 → BitVec 32) {t : ℕ} (h : t < 4096) {b : Fin 16} (hb : inSeq w b t) :
    idOf w n (tw t) = ident w n b t := by
  unfold idOf
  rw [bOf_in hR h hb]
  unfold offOf maxOf
  rw [pick_at, pick_at]
  rfl

/-- The code of a token past the last one, as a number. -/
theorem past_toNat (k : ℕ) (hk : k < 32) {t : ℕ} (h : t < 4096) : (tw k + 2#32 * tw t).toNat = k + 2 * t := by
  rw [BitVec.toNat_add, BitVec.toNat_mul, BitVec.toNat_ofNat, BitVec.toNat_ofNat, BitVec.toNat_ofNat]
  omega

/-- The codes of a row and of a column are the same exactly for two tokens of one sequence. -/
theorem seqOf_same (hR : Rag w) {t s : ℕ} (ht : t < 4096) (hs : s < 4096) {b : Fin 16} (hb : inSeq w b t) :
    seqOf w 16#32 (tw t) = seqOf w 17#32 (tw s) ↔ inSeq w b s := by
  rw [seqOf_in hR _ ht hb]
  have eb : (tw b.val).toNat = b.val := tw_toNat (by omega)
  rcases in_or_past hR s with ⟨b', hb'⟩ | hp
  · rw [seqOf_in hR _ hs hb']
    have eb' : (tw b'.val).toNat = b'.val := tw_toNat (by omega)
    refine ⟨fun e => ?_, fun h => ?_⟩
    · have e := congrArg BitVec.toNat e
      rw [eb, eb'] at e
      rw [Fin.ext e]; exact hb'
    · have : b = b' := by
        rcases lt_trichotomy b b' with hl | hl | hl
        · have := hR.mono b.succ b'.castSucc (by rw [Fin.le_def, Fin.val_succ, Fin.val_castSucc]; exact hl)
          have := h.2; have := hb'.1; omega
        · exact hl
        · have := hR.mono b'.succ b.castSucc (by rw [Fin.le_def, Fin.val_succ, Fin.val_castSucc]; exact hl)
          have := hb'.2; have := h.1; omega
      rw [this]
  · rw [seqOf_past hR _ hs hp]
    refine ⟨fun e => ?_, fun h => ?_⟩
    · have e := congrArg BitVec.toNat e
      rw [eb, past_toNat 17 (by decide) hs] at e
      omega
    · have := hR.mono b.succ 16 (Fin.le_last _)
      have := h.2
      omega

/-- The code of a row past the last sequence is no column's. -/
theorem seqOf_differ (hR : Rag w) {t s : ℕ} (ht : t < 4096) (hs : s < 4096) (hp : (w 16).toNat ≤ t) :
    ¬ seqOf w 16#32 (tw t) = seqOf w 17#32 (tw s) := by
  rw [seqOf_past hR _ ht hp]
  intro e
  have e := congrArg BitVec.toNat e
  rw [past_toNat 16 (by decide) ht] at e
  rcases in_or_past hR s with ⟨b, hb⟩ | hq
  · rw [seqOf_in hR _ hs hb, tw_toNat (by omega)] at e
    omega
  · rw [seqOf_past hR _ hs hq, past_toNat 17 (by decide) hs] at e
    omega

/-! ## Whether a row attends to a column -/

/-- The kernel's bit for row token `t` and column token `s`. -/
def meets (w : Fin 17 → BitVec 32) (n : Fin 16 → BitVec 32) (t s : ℕ) : BitVec 1 :=
  IntOp.andi (IntOp.cmpi .eq (seqOf w 16#32 (tw t)) (seqOf w 17#32 (tw s)))
    (IntOp.ori (IntOp.cmpi .sgt (idOf w n (tw t)) (idOf w n (tw s))) (IntOp.cmpi .eq (tw t) (tw s)))

theorem bit_false : ∀ x : BitVec 1, IntOp.andi (BitVec.ofBool false) x = BitVec.ofBool false := by decide

theorem bit_true : ∀ p q : Bool, IntOp.andi (BitVec.ofBool true) (IntOp.ori (BitVec.ofBool p) (BitVec.ofBool q)) = BitVec.ofBool (q || p) := by
  decide

open Classical in
theorem meets_in (hR : Rag w) (n : Fin 16 → BitVec 32) {t s : ℕ} (ht : t < 4096) (hs : s < 4096) {b : Fin 16} (hb : inSeq w b t) :
    meets w n t s = BitVec.ofBool (decide (inSeq w b s ∧ sees w n b t s)) := by
  unfold meets
  have e1 : IntOp.cmpi .eq (seqOf w 16#32 (tw t)) (seqOf w 17#32 (tw s)) = BitVec.ofBool (decide (inSeq w b s)) := by
    show BitVec.ofBool (seqOf w 16#32 (tw t) == seqOf w 17#32 (tw s)) = _
    congr 1
    rw [Bool.eq_iff_iff, beq_iff_eq, seqOf_same hR ht hs hb, decide_eq_true_iff]
  rw [e1]
  by_cases h : inSeq w b s
  · rw [decide_eq_true h, idOf_in hR n ht hb, idOf_in hR n hs h]
    refine (bit_true ((ident w n b s).slt (ident w n b t)) (tw t == tw s)).trans ?_
    congr 1
    rw [Bool.eq_iff_iff, Bool.or_eq_true, beq_iff_eq, decide_eq_true_iff]
    have : tw t = tw s ↔ s = t := ⟨fun e => by
      have e := congrArg BitVec.toNat e
      rw [tw_toNat ht, tw_toNat hs] at e
      exact e.symm, fun e => by rw [e]⟩
    rw [this]
    exact ⟨fun hh => ⟨h, hh⟩, fun hh => hh.2⟩
  · rw [decide_eq_false h, bit_false, decide_eq_false fun hh => h hh.1]

theorem meets_past (hR : Rag w) (n : Fin 16 → BitVec 32) {t s : ℕ} (ht : t < 4096) (hs : s < 4096) (hp : (w 16).toNat ≤ t) :
    meets w n t s = BitVec.ofBool false := by
  unfold meets
  have e1 : IntOp.cmpi .eq (seqOf w 16#32 (tw t)) (seqOf w 17#32 (tw s)) = BitVec.ofBool false := by
    show BitVec.ofBool (seqOf w 16#32 (tw t) == seqOf w 17#32 (tw s)) = _
    congr 1
    exact beq_eq_false_iff_ne.mpr (seqOf_differ hR ht hs hp)
  rw [e1, bit_false]

/-! ## What a column adds to a row -/

/-- The kernel's weight of the bit. -/
def gate (w : Fin 17 → BitVec 32) (n : Fin 16 → BitVec 32) (t s : ℕ) : EReal :=
  FloatOps.sitofp (F := Ideal) FTy.f32 (BitVec.setWidth 32 (meets w n t s)) * share

/-- What the kernel adds for column token `s` to number `d` of head `h` of row token `t`. -/
def cell (q k v : Rows) (w : Fin 17 → BitVec 32) (n : Fin 16 → BitVec 32) (t : ℕ) (h : Fin 8) (d : Fin 64) (s : ℕ) : EReal :=
  (∑ e : Fin 64, row q t h e * scale * row k s h e) * Ideal.logistic (∑ e : Fin 64, row q t h e * scale * row k s h e)
    * gate w n t s * row v s h d

theorem widened (p : Bool) : FloatOps.sitofp (F := Ideal) FTy.f32 (BitVec.setWidth 32 (BitVec.ofBool p)) = if p then (1 : EReal) else 0 := by
  show ((((BitVec.setWidth 32 (BitVec.ofBool p)).toInt : ℝ)) : EReal) = _
  cases p
  · rw [show (BitVec.setWidth 32 (BitVec.ofBool false)).toInt = 0 from rfl]; simp
  · rw [show (BitVec.setWidth 32 (BitVec.ofBool true)).toInt = 1 from rfl]; simp

/-- The scale taken in by the query rows. -/
theorem score_eq (q k : Rows) (t s : ℕ) (h : Fin 8) : ∑ e : Fin 64, row q t h e * scale * row k s h e = score q k t s h := by
  unfold score
  rw [scale_sum]
  exact Finset.sum_congr rfl fun e _ => mul_right_comm _ _ _

open Classical in
theorem cell_in (hR : Rag w) (q k v : Rows) (n : Fin 16 → BitVec 32) {t s : ℕ} (ht : t < 4096) (hs : s < 4096) {b : Fin 16} (hb : inSeq w b t)
    (h : Fin 8) (d : Fin 64) : cell q k v w n t h d s = part q k v w n b t h d s := by
  unfold cell part gate
  rw [score_eq, meets_in hR n ht hs hb, widened]
  by_cases hh : inSeq w b s ∧ sees w n b t s
  · rw [if_pos hh, decide_eq_true hh, if_pos rfl, one_mul]
  · rw [if_neg hh, decide_eq_false hh, if_neg Bool.false_ne_true, zero_mul, mul_zero, zero_mul]

theorem cell_past (hR : Rag w) (q k v : Rows) (n : Fin 16 → BitVec 32) {t s : ℕ} (ht : t < 4096) (hs : s < 4096) (hp : (w 16).toNat ≤ t)
    (h : Fin 8) (d : Fin 64) : cell q k v w n t h d s = 0 := by
  unfold cell gate
  rw [meets_past hR n ht hs hp, widened, if_neg Bool.false_ne_true, zero_mul, mul_zero, zero_mul]

end Cert.Tokens
end
-- ==== Proof.KernelIdeal.Value.lean ====
/- The kernel's result of a token, as a sum over the columns of its tile's window. -/
module

public import proofs.«01_k».proof.Proof.Codes
public import proofs.«01_k».proof.Proof.KernelIdeal.Result
public import Idealize.ShloMosaic.Lib.Pointwise

@[expose] public section

set_option maxRecDepth 16384

noncomputable section

namespace Cert.KernelIdeal.Body

open Cert.KernelIdeal Cert.KernelIdeal.Gen Cert.Tokens Idealize.ShloMosaic Idealize.ShloMosaic.TcCoe Idealize.SL.Sem

/-! ## The metadata of the tile's rows and of a window's columns -/

/-- The sum of lanes of which all but one are zero. -/
theorem fold_single (g : Fin 32 → BitVec 32) (r : Fin 32) (hg : ∀ x, x ≠ r → g x = 0#32) :
    Finset.fold IntOp.addi 0#32 g Finset.univ = g r := by
  have h : ∀ s : Finset (Fin 32), Finset.fold IntOp.addi 0#32 g s = if r ∈ s then g r else 0#32 := by
    intro s
    induction s using Finset.induction_on with
    | empty => rfl
    | insert a s ha ih =>
      rw [Finset.fold_insert ha, ih]
      by_cases har : a = r
      · subst har
        rw [if_neg ha, if_pos (Finset.mem_insert_self _ _)]
        exact BitVec.add_zero _
      · rw [hg a har]
        have : r ∈ insert a s ↔ r ∈ s := by rw [Finset.mem_insert]; exact ⟨fun h => h.resolve_left fun e => har e.symm, .inr⟩
        simp only [this]
        exact BitVec.zero_add _
  rw [h, if_pos (Finset.mem_univ _)]

/-- Only the tile's own lane is kept. -/
theorem lane (i : grid0.Coords) (v : S128x32.Idx → BitVec 32) (p : Fin 128) :
    Finset.fold IntOp.addi 0#32 (fun x : Fin 32 =>
      Scalar.select (IntOp.cmpi CmpIPredicate.eq (BitVec.ofNat 32 x.val) (BitVec.ofNat 32 (i 0).val)) (v (ix2 p x)) 0#32) Finset.univ
      = v (ix2 p (i 0)) := by
  have hi : (i 0).val < 32 := (i 0).isLt
  refine (fold_single _ (i 0) fun x hx => ?_).trans ?_
  · have : IntOp.cmpi CmpIPredicate.eq (BitVec.ofNat 32 x.val) (BitVec.ofNat 32 (i 0).val) = 0#1 := by
      show BitVec.ofBool (BitVec.ofNat 32 x.val == BitVec.ofNat 32 (i 0).val) = _
      rw [beq_eq_false_iff_ne.mpr fun e => hx (Fin.ext (by
        have e := congrArg BitVec.toNat e
        rw [BitVec.toNat_ofNat, BitVec.toNat_ofNat] at e
        omega))]
      rfl
    rw [this]; rfl
  · have : IntOp.cmpi CmpIPredicate.eq (BitVec.ofNat 32 (i 0).val) (BitVec.ofNat 32 (i 0).val) = 1#1 := by
      show BitVec.ofBool (BitVec.ofNat 32 (i 0).val == BitVec.ofNat 32 (i 0).val) = _
      rw [beq_self_eq_true]; rfl
    rw [this]; rfl

/-- Tile `a`, row `p`, as a token's word. -/
theorem word_at (a p : ℕ) : BitVec.ofNat 32 a * 128#32 + BitVec.ofNat 32 p = tw (128 * a + p) := by
  unfold tw
  rw [Nat.mul_comm 128 a, BitVec.ofNat_add, BitVec.ofNat_mul]

theorem tokR_at (p : Fin 128) (r : Fin 32) : tokR (ix2 p r) = tw (128 * r.val + p.val) := by
  pointwise [tokR]
  exact (BitVec.add_comm _ _).trans (word_at r.val p.val)

theorem tokC_at (a : Fin 32) (y : Fin 512) : tokC (ix2 a y) = tw (128 * a.val + y.val) := by
  pointwise [tokC]
  exact word_at a.val y.val

variable {F : FTy → Type} [FloatOps F] (c : Dev nD) (i : grid0.Coords) (T : Bf (F := F) c mT) (N : Bf (F := F) c mN)

/-- The rows' sequences, identifiers and tokens. -/
theorem rb_at (p : Fin 128) : k0_pay122 (F := F) i (metaRb c T) (ix2 p 0) = seqOf (wd c T) 16#32 (tw (128 * (i 0).val + p.val)) := by
  rw [← tokR_at p (i 0)]
  pointwise [k0_pay122, k0_pay121]
  exact lane i (metaRb c T) p
theorem ri_at (p : Fin 128) : k0_pay123 (F := F) i (metaRi c T N) (ix2 p 0) = idOf (wd c T) (wdN c N) (tw (128 * (i 0).val + p.val)) := by
  rw [← tokR_at p (i 0)]
  pointwise [k0_pay123, k0_pay121]
  exact lane i (metaRi c T N) p
theorem rt_at (p : Fin 128) : k0_pay124 i (ix2 p 0) = tw (128 * (i 0).val + p.val) := by
  pointwise [k0_pay124]
  exact word_at (i 0).val p.val

/-- The columns' sequences, identifiers and tokens. -/
theorem cb_at (ws : ℕ) (hw : ws < 32) (y : Fin 512) : crow ws (metaCb c T) (ix2 0 y) = seqOf (wd c T) 17#32 (tw (128 * ws + y.val)) := by
  have e := tokC_at ⟨ws % 32, Nat.mod_lt _ (by decide)⟩ y
  rw [show (⟨ws % 32, Nat.mod_lt _ (by decide)⟩ : Fin 32).val = ws from Nat.mod_eq_of_lt hw] at e
  rw [← e]
  rfl
theorem ci_at (ws : ℕ) (hw : ws < 32) (y : Fin 512) : crow ws (metaCi c T N) (ix2 0 y) = idOf (wd c T) (wdN c N) (tw (128 * ws + y.val)) := by
  have e := tokC_at ⟨ws % 32, Nat.mod_lt _ (by decide)⟩ y
  rw [show (⟨ws % 32, Nat.mod_lt _ (by decide)⟩ : Fin 32).val = ws from Nat.mod_eq_of_lt hw] at e
  rw [← e]
  rfl
theorem ct_start : ∀ (n : Fin 4) (r : Fin 32), n.val ≤ r.val →
    Scalar.muli (Scalar.subi (BitVec.ofNat 32 r.val) (BitVec.ofNat 32 n.val)) 128#32 = BitVec.ofNat 32 (128 * (r.val - n.val)) := by
  decide +kernel
theorem ct_at (n : Fin 4) (hn : n.val ≤ (i 0).val) (y : ℕ) :
    IntOp.addi (Scalar.muli (Scalar.subi (BitVec.ofNat 32 (i 0).val) (BitVec.ofNat 32 n.val)) 128#32) (BitVec.ofNat 32 y)
      = tw (128 * ((i 0).val - n.val) + y) := by
  rw [ct_start n (i 0) hn]
  exact (BitVec.ofNat_add _ _).symm

/-! ## The weights of a window, and a head of it -/

/-- The query, key and value rows of a head, by token. -/
theorem qhead_at (q : Rows) (r : Fin 32) (h : Fin 8) (p : Fin 128) (e : Fin 64) :
    qhead h (qrows (F := Ideal) q r) (ix3 p 0 e) = row q (128 * r.val + p.val) h e := by
  show q _ = q _
  congr 1
  funext a
  match a with
  | ⟨0, _⟩ => exact Fin.ext (by show 128 * r.val + p.val = min (128 * r.val + p.val) 4095; omega)
  | ⟨1, _⟩ => rfl
  | ⟨2, _⟩ => rfl
theorem kwin_at (W ws : ℕ) (hw : 128 * ws + W ≤ 4096) (k : Rows) (h : Fin 8) (y : Fin W) (e : Fin 64) :
    kwin W ws h (turn (F := Ideal) k) (ix3 0 y e) = row k (128 * ws + y.val) h e := by
  show k _ = k _
  congr 1
  funext a
  match a with
  | ⟨0, _⟩ => exact Fin.ext (by show (128 * ws + y.val) % 4096 = min (128 * ws + y.val) 4095; omega)
  | ⟨1, _⟩ => rfl
  | ⟨2, _⟩ => rfl

/-- The weight once a column's word is its token's. -/
theorem weigh {w : Fin 17 → BitVec 32} {n : Fin 16 → BitVec 32} {t s : ℕ} {x : BitVec 32} (e : x = tw s) :
    FloatOps.sitofp (F := Ideal) FTy.f32 (BitVec.setWidth 32
      (IntOp.andi (IntOp.cmpi .eq (seqOf w 16#32 (tw t)) (seqOf w 17#32 (tw s)))
        (IntOp.ori (IntOp.cmpi .sgt (idOf w n (tw t)) (idOf w n (tw s))) (IntOp.cmpi .eq (tw t) x)))) * share = gate w n t s := by
  rw [e]
  rfl

/-- What a column adds, from its query, key and value rows and its weight. -/
theorem cell_of {q k v : Rows} {w : Fin 17 → BitVec 32} {n : Fin 16 → BitVec 32} {t s : ℕ} {h : Fin 8} {d : Fin 64} {A B : Fin 64 → EReal}
    {x g : EReal} (hA : ∀ e, A e = row q t h e) (hB : ∀ e, B e = row k s h e) (hx : x = row v s h d) (hg : g = gate w n t s) :
    (∑ e : Fin 64, A e * scale * B e) * Ideal.logistic (∑ e : Fin 64, A e * scale * B e) * g * x = cell q k v w n t h d s := by
  obtain rfl := funext hA
  obtain rfl := funext hB
  rw [hx, hg]
  rfl

variable (T : Bf (F := Ideal) c mT) (N : Bf (F := Ideal) c mN)

/-! The four window widths. -/

theorem mask1_at (hn : 0 ≤ (i 0).val) (p : Fin 128) (y : Fin 128) :
    mask1 (F := Ideal) c i T N (crow ((i 0).val - 0) (metaCb c T)) (crow ((i 0).val - 0) (metaCi c T N)) (ix2 p y)
      = gate (wd c T) (wdN c N) (128 * (i 0).val + p.val) (128 * ((i 0).val - 0) + y.val) := by
  have hw : (i 0).val < 32 := (i 0).isLt
  unfold mask1
  pointwise [k0_pay66]
  rw [rb_at, ri_at, rt_at, cb_at c T (i 0).val hw, ci_at c T N (i 0).val hw]
  exact weigh (ct_at i 0 hn y.val)
theorem head1_at (hn : 0 ≤ (i 0).val) (r : Fin 32) (hr : (i 0).val = r.val) (q k v : Rows) (h : Fin 8) (p : Fin 128) (d : Fin 64) :
    head1 (F := Ideal) c i T N (qrows q r) (turn k) (turn v) h (ix3 p 0 d)
      = ∑ y : Fin 128, cell q k v (wd c T) (wdN c N) (128 * (i 0).val + p.val) h d (128 * ((i 0).val - 0) + y.val) := by
  have hw : 128 * ((i 0).val - 0) + 128 ≤ 4096 := by have : (i 0).val < 32 := (i 0).isLt; omega
  unfold head1
  pointwise [k0_pay69]
  refine Finset.sum_congr rfl fun y _ => ?_
  exact cell_of (fun e => hr ▸ qhead_at q r h p e) (fun e => kwin_at 128 _ hw k h y e) (kwin_at 128 _ hw v h y d) (mask1_at c i T N hn p y)

theorem mask2_at (hn : 1 ≤ (i 0).val) (p : Fin 128) (y : Fin 256) :
    mask2 (F := Ideal) c i T N (crow ((i 0).val - 1) (metaCb c T)) (crow ((i 0).val - 1) (metaCi c T N)) (ix2 p y)
      = gate (wd c T) (wdN c N) (128 * (i 0).val + p.val) (128 * ((i 0).val - 1) + y.val) := by
  have hw : (i 0).val - 1 < 32 := by have : (i 0).val < 32 := (i 0).isLt; omega
  unfold mask2
  pointwise [k0_pay79]
  rw [rb_at, ri_at, rt_at, cb_at c T _ hw, ci_at c T N _ hw]
  exact weigh (ct_at i 1 hn y.val)
theorem head2_at (hn : 1 ≤ (i 0).val) (r : Fin 32) (hr : (i 0).val = r.val) (q k v : Rows) (h : Fin 8) (p : Fin 128) (d : Fin 64) :
    head2 (F := Ideal) c i T N (qrows q r) (turn k) (turn v) h (ix3 p 0 d)
      = ∑ y : Fin 256, cell q k v (wd c T) (wdN c N) (128 * (i 0).val + p.val) h d (128 * ((i 0).val - 1) + y.val) := by
  have hw : 128 * ((i 0).val - 1) + 256 ≤ 4096 := by have : (i 0).val < 32 := (i 0).isLt; omega
  unfold head2
  pointwise [k0_pay82]
  refine Finset.sum_congr rfl fun y _ => ?_
  exact cell_of (fun e => hr ▸ qhead_at q r h p e) (fun e => kwin_at 256 _ hw k h y e) (kwin_at 256 _ hw v h y d) (mask2_at c i T N hn p y)

theorem mask3_at (hn : 2 ≤ (i 0).val) (p : Fin 128) (y : Fin 384) :
    mask3 (F := Ideal) c i T N (crow ((i 0).val - 2) (metaCb c T)) (crow ((i 0).val - 2) (metaCi c T N)) (ix2 p y)
      = gate (wd c T) (wdN c N) (128 * (i 0).val + p.val) (128 * ((i 0).val - 2) + y.val) := by
  have hw : (i 0).val - 2 < 32 := by have : (i 0).val < 32 := (i 0).isLt; omega
  unfold mask3
  pointwise [k0_pay92]
  rw [rb_at, ri_at, rt_at, cb_at c T _ hw, ci_at c T N _ hw]
  exact weigh (ct_at i 2 hn y.val)
theorem head3_at (hn : 2 ≤ (i 0).val) (r : Fin 32) (hr : (i 0).val = r.val) (q k v : Rows) (h : Fin 8) (p : Fin 128) (d : Fin 64) :
    head3 (F := Ideal) c i T N (qrows q r) (turn k) (turn v) h (ix3 p 0 d)
      = ∑ y : Fin 384, cell q k v (wd c T) (wdN c N) (128 * (i 0).val + p.val) h d (128 * ((i 0).val - 2) + y.val) := by
  have hw : 128 * ((i 0).val - 2) + 384 ≤ 4096 := by have : (i 0).val < 32 := (i 0).isLt; omega
  unfold head3
  pointwise [k0_pay95]
  refine Finset.sum_congr rfl fun y _ => ?_
  exact cell_of (fun e => hr ▸ qhead_at q r h p e) (fun e => kwin_at 384 _ hw k h y e) (kwin_at 384 _ hw v h y d) (mask3_at c i T N hn p y)

theorem mask4_at (hn : 3 ≤ (i 0).val) (p : Fin 128) (y : Fin 512) :
    mask4 (F := Ideal) c i T N (crow ((i 0).val - 3) (metaCb c T)) (crow ((i 0).val - 3) (metaCi c T N)) (ix2 p y)
      = gate (wd c T) (wdN c N) (128 * (i 0).val + p.val) (128 * ((i 0).val - 3) + y.val) := by
  have hw : (i 0).val - 3 < 32 := by have : (i 0).val < 32 := (i 0).isLt; omega
  unfold mask4
  pointwise [k0_pay105]
  rw [rb_at, ri_at, rt_at, cb_at c T _ hw, ci_at c T N _ hw]
  exact weigh (ct_at i 3 hn y.val)
theorem head4_at (hn : 3 ≤ (i 0).val) (r : Fin 32) (hr : (i 0).val = r.val) (q k v : Rows) (h : Fin 8) (p : Fin 128) (d : Fin 64) :
    head4 (F := Ideal) c i T N (qrows q r) (turn k) (turn v) h (ix3 p 0 d)
      = ∑ y : Fin 512, cell q k v (wd c T) (wdN c N) (128 * (i 0).val + p.val) h d (128 * ((i 0).val - 3) + y.val) := by
  have hw : 128 * ((i 0).val - 3) + 512 ≤ 4096 := by have : (i 0).val < 32 := (i 0).isLt; omega
  unfold head4
  pointwise [k0_pay108]
  refine Finset.sum_congr rfl fun y _ => ?_
  exact cell_of (fun e => hr ▸ qhead_at q r h p e) (fun e => kwin_at 512 _ hw k h y e) (kwin_at 512 _ hw v h y d) (mask4_at c i T N hn p y)

/-- A row of the block, at whatever width its window has. -/
theorem blk_window (r : Fin 32) (hr : (i 0).val = r.val) (q k v : Rows) (n : Fin 4) (e : nT c i T = BitVec.ofNat 32 (n.val + 1)) (hn : n.val ≤ (i 0).val) (p : Fin 128) (h : Fin 8) (d : Fin 64) :
    blk (F := Ideal) c i T N (qrows q r) (turn k) (turn v) (ix3 p h d)
      = ∑ y : Fin (128 * (n.val + 1)), cell q k v (wd c T) (wdN c N) (128 * (i 0).val + p.val) h d (128 * ((i 0).val - n.val) + y.val) := by
  unfold blk
  match n, e, hn with
  | ⟨0, _⟩, e, hn =>
    have e : nT c i T = 1#32 := e
    rw [if_pos e]
    exact head1_at c i T N hn r hr q k v h p d
  | ⟨1, _⟩, e, hn =>
    have e : nT c i T = 2#32 := e
    rw [if_neg (by rw [e]; decide), if_pos e]
    exact head2_at c i T N hn r hr q k v h p d
  | ⟨2, _⟩, e, hn =>
    have e : nT c i T = 3#32 := e
    rw [if_neg (by rw [e]; decide), if_neg (by rw [e]; decide), if_pos e]
    exact head3_at c i T N hn r hr q k v h p d
  | ⟨3, _⟩, e, hn =>
    have e : nT c i T = 4#32 := e
    rw [if_neg (by rw [e]; decide), if_neg (by rw [e]; decide), if_neg (by rw [e]; decide), if_pos e]
    exact head4_at c i T N hn r hr q k v h p d

/-- A row of a block without a window. -/
theorem blk_none (r : Fin 32) (q k v : Rows) (e : nT c i T = 0#32) (p : Fin 128) (h : Fin 8) (d : Fin 64) :
    blk (F := Ideal) c i T N (qrows q r) (turn k) (turn v) (ix3 p h d) = 0 := by
  unfold blk
  rw [if_neg (by rw [e]; decide), if_neg (by rw [e]; decide), if_neg (by rw [e]; decide), if_neg (by rw [e]; decide)]
  pointwise [k0_pay125]

/-! ## The result -/

theorem coords_val : ∀ t : Fin grid0.N, (grid0.coords t 0).val = t.val := by decide

variable (m : (ℓ : Loc nD τ sig) → Buf (Elt Ideal) ℓ)

/-- The three float arguments. -/
abbrev qA : Rows := m ((c.tc : Thread nD τ).loc main_arg0)
abbrev kA : Rows := m ((c.tc : Thread nD τ).loc main_arg1)
abbrev vA : Rows := m ((c.tc : Thread nD τ).loc main_arg2)

/-- A token's result: zero without a window, else the sum over its tile's window, which starts at the tile where the
    sequence of the tile's first token does. -/
theorem out_cases (hR : Rag (wd c (Tof m c))) (t : Fin 4096) (h : Fin 8) (d : Fin 64) :
    (outArr m c (ix3 t h d) = 0 ∧ (wd c (Tof m c) 16).toNat ≤ t.val) ∨
    ∃ (a W : ℕ) (b : Fin 16), a + W ≤ 4096 ∧ t.val + 1 ≤ a + W ∧ a ≤ (wd c (Tof m c) b.castSucc).toNat ∧ (wd c (Tof m c) b.castSucc).toNat ≤ t.val ∧
      outArr m c (ix3 t h d) = ∑ y : Fin W, cell (qA c m) (kA c m) (vA c m) (wd c (Tof m c)) (wdN c (Nof m c)) t.val h d (a + y.val) := by
  have ht := t.isLt
  let g : Fin grid0.N := ⟨t.val / 128, by rw [N_0]; omega⟩
  let r : Fin 32 := ⟨t.val / 128, by omega⟩
  let p : Fin 128 := ⟨t.val % 128, Nat.mod_lt _ (by decide)⟩
  have hg : (grid0.coords g 0).val = r.val := coords_val g
  have hp : 128 * r.val + p.val = t.val := by show 128 * (t.val / 128) + t.val % 128 = t.val; omega
  have eo : outArr m c (ix3 t h d) = blk c (grid0.coords g) (Tof m c) (Nof m c) (qrows (qA c m) r) (turn (kA c m)) (turn (vA c m)) (ix3 p h d) :=
    outArr_at m c g (ix3 p h d) (ix3 t h d) hp.symm rfl rfl
  have hc : nT c (grid0.coords g) (Tof m c) = tiles (BitVec.ofNat 32 r.val) (wd c (Tof m c)) := by
    unfold nT
    rw [hg]
  rcases tiles_cases hR r with ⟨e, hw⟩ | ⟨n, b, e, hn, hs, hb, -⟩
  · refine .inl ⟨?_, by omega⟩
    rw [eo]
    exact blk_none c _ _ _ r _ _ _ (hc.trans e) p h d
  · refine .inr ⟨128 * (r.val - n.val), 128 * (n.val + 1), b, by omega, by omega, by omega, by omega, ?_⟩
    rw [eo, blk_window c _ _ _ r hg _ _ _ n (hc.trans e) (by rw [hg]; exact hn) p h d, hg, hp]

/-- A token past the last sequence has zero. -/
theorem out_past (hR : Rag (wd c (Tof m c))) (t : Fin 4096) (h : Fin 8) (d : Fin 64) (ht : (wd c (Tof m c) 16).toNat ≤ t.val) :
    outArr m c (ix3 t h d) = 0 := by
  rcases out_cases c m hR t h d with ⟨e, -⟩ | ⟨a, W, b, hW, -, -, -, e⟩
  · exact e
  · rw [e]
    exact Finset.sum_eq_zero fun y _ => cell_past hR _ _ _ _ t.isLt (by omega) ht h d

/-- A token of a sequence has the sum over its sequence. -/
theorem out_in (hR : Rag (wd c (Tof m c))) (t : Fin 4096) (h : Fin 8) (d : Fin 64) (b : Fin 16) (ht : inSeq (wd c (Tof m c)) b t.val) :
    outArr m c (ix3 t h d) = ∑ s ∈ Finset.Ico (wd c (Tof m c) b.castSucc).toNat (t.val + 1),
      part (qA c m) (kA c m) (vA c m) (wd c (Tof m c)) (wdN c (Nof m c)) b t.val h d s := by
  rcases out_cases c m hR t h d with ⟨-, hp⟩ | ⟨a, W, b', hW, h1, h2, h3, e⟩
  · have := hR.mono b.succ 16 (Fin.le_last _)
    have := ht.2
    omega
  · have hb : (wd c (Tof m c) b'.castSucc).toNat ≤ (wd c (Tof m c) b.castSucc).toNat := by
      by_cases hl : b' ≤ b
      · exact hR.mono _ _ hl
      · have := hR.mono b.succ b'.castSucc (by rw [Fin.le_def, Fin.val_succ, Fin.val_castSucc]; exact not_le.mp hl)
        have := ht.2
        omega
    rw [e, ← sum_span (part (qA c m) (kA c m) (vA c m) (wd c (Tof m c)) (wdN c (Nof m c)) b t.val h d) a W _ (t.val + 1) (h2.trans hb) h1
      (part_outside hR _ _ _ _ b t.val h d ht)]
    exact Finset.sum_congr rfl fun y _ => cell_in hR _ _ _ _ t.isLt (by omega) ht h d

end Cert.KernelIdeal.Body
end
-- ==== Proof.Reference.Stages.lean ====
/- The reference's result as a chain of named stages: positions, offsets, the padded rows, the mask, the attention
   and the rows' way back to their tokens. -/
module

public import proofs.«01_k».proof.Proof.Gen.ReferenceIdeal.Run
public import Idealize.ShloMosaic.PureOps.Ideal

@[expose] public section

set_option maxRecDepth 16384

noncomputable section

namespace Cert.ReferenceIdeal.Body

open Cert.ReferenceIdeal Cert.ReferenceIdeal.Gen Idealize.ShloMosaic Idealize.ShloMosaic.TcCoe Idealize.SL.Sem

variable (w : S17.Idx → BitVec 32) (n : S16.Idx → BitVec 32)

/-- The position of a padded row's token, and a number of each sequence along its row. -/
def pos : IVec S16x512 32 := broadcastInDim S16x512 ![0, 1] bcast_S1x512_S16x512_0_1 (broadcastInDim S1x512 ![1] bcast_S512_S1x512_1 (iotaInDim S512 32 0))
def along (u : IVec S16 32) : IVec S16x512 32 := broadcastInDim S16x512 ![0, 1] bcast_S16x1_S16x512_0_1 (broadcastInDim S16x1 ![0] bcast_S16_S16x1_0 u)

/-- Where each sequence starts and how long it is. -/
def offs : IVec S16 32 := extractStridedSlice S16 ![0] w slices_S17_S16_0
def lens : IVec S16 32 := subi (extractStridedSlice S16 ![1] w slices_S17_S16_1) (offs w)

/-- Which places of the padded rows hold a token, and which token that is. -/
def mask : IVec S16x512 1 := cmpi .slt pos (along (lens w))
def flat : IVec S16x512 32 := addi (along (offs w)) pos

/-- The token read for a place: at most the last one. -/
def clip : IVec S16x512 32 := minsi (flat w) (broadcastInDim S16x512 ![] bcast_S_S16x512 (constantI S_ 32 4095#32))
def gidx : IVec S16x512x1 32 := broadcastInDim S16x512x1 ![0, 1] bcast_S16x512_S16x512x1_0_1
  (select (cmpi .slt (clip w) (broadcastInDim S16x512 ![] bcast_S_S16x512 (constantI S_ 32 0#32)))
    (addi (clip w) (broadcastInDim S16x512 ![] bcast_S_S16x512 (constantI S_ 32 4096#32))) (clip w))

/-- The padded rows of the queries, keys or values. -/
def padded (x : S4096x8x64.Idx → EReal) : FVec Ideal S16x512x8x64 .f32 :=
  mulf (Host.gather gather_S4096x8x64_S16x512x1_S16x512x8x64_23_0_n_n_0_2_1864 x (gidx w))
    (broadcastInDim S16x512x8x64 ![0, 1, 2, 3] bcast_S16x512x1x1_S16x512x8x64_0_1_2_3
      (uitofp .f32 (broadcastInDim S16x512x1x1 ![0, 1] bcast_S16x512_S16x512x1x1_0_1 (mask w))))

/-- The scaled scores. -/
def scores (q k : S4096x8x64.Idx → EReal) : FVec Ideal S16x8x512x512 .f32 :=
  mulf (Host.dotGeneral dot_S16x512x8x64_S16x512x8x64_S16x8x512x512_3_3_1_1_02_02 none (padded w q) (padded w k))
    (broadcastInDim S16x8x512x512 ![] bcast_S_S16x8x512x512 (constant S_ .f32 0x3DB504F3#32))

/-- The identifiers, and which place attends to which. -/
def ids : IVec S16x512 32 := minsi pos (along (subi (lens w) n))
def valid : IVec S16x512x512 1 :=
  andi (andi (ori
      (broadcastInDim S16x512x512 ![0, 1, 2] bcast_S1x512x512_S16x512x512_0_1_2 (broadcastInDim S1x512x512 ![1, 2] bcast_S512x512_S1x512x512_1_2
        (cmpi .eq (addi (iotaInDim S512x512 32 0) (broadcastInDim S512x512 ![] bcast_S_S512x512 (constantI S_ 32 0#32))) (iotaInDim S512x512 32 1))))
      (cmpi .sgt (subi (broadcastInDim S16x512x512 ![0, 1, 2] bcast_S16x512x1_S16x512x512_0_1_2 (broadcastInDim S16x512x1 ![0, 1] bcast_S16x512_S16x512x1_0_1 (ids w n)))
        (broadcastInDim S16x512x512 ![0, 1, 2] bcast_S16x1x512_S16x512x512_0_1_2 (broadcastInDim S16x1x512 ![0, 2] bcast_S16x512_S16x1x512_0_2 (ids w n))))
        (broadcastInDim S16x512x512 ![] bcast_S_S16x512x512 (constantI S_ 32 0#32))))
    (broadcastInDim S16x512x512 ![0, 1, 2] bcast_S16x1x512_S16x512x512_0_1_2 (broadcastInDim S16x1x512 ![0, 2] bcast_S16x512_S16x1x512_0_2 (mask w))))
    (broadcastInDim S16x512x512 ![0, 1, 2] bcast_S16x512x1_S16x512x512_0_1_2 (broadcastInDim S16x512x1 ![0, 1] bcast_S16x512_S16x512x1_0_1 (mask w)))

/-- The weights: the scores through x·σ(x), divided by 512, masked. -/
def weights (q k : S4096x8x64.Idx → EReal) : FVec Ideal S16x8x512x512 .f32 :=
  mulf (Host.divf (mulf (scores w q k)
      (Host.divf (broadcastInDim S16x8x512x512 ![] bcast_S_S16x8x512x512 (constant S_ .f32 0x3F800000#32))
        (addf (broadcastInDim S16x8x512x512 ![] bcast_S_S16x8x512x512 (constant S_ .f32 0x3F800000#32)) (Host.exp (Host.negf (scores w q k))))))
      (broadcastInDim S16x8x512x512 ![] bcast_S_S16x8x512x512 (constant S_ .f32 0x44000000#32)))
    (broadcastInDim S16x8x512x512 ![0, 1, 2, 3] bcast_S16x1x512x512_S16x8x512x512_0_1_2_3
      (uitofp .f32 (broadcastInDim S16x1x512x512 ![0, 2, 3] bcast_S16x512x512_S16x1x512x512_0_2_3 (valid w n))))

/-- The padded rows of the result. -/
def outp (q k v : S4096x8x64.Idx → EReal) : FVec Ideal S16x512x8x64 .f32 :=
  transpose S16x512x8x64 [0, 3, 1, 2]
    (Host.dotGeneral dot_S16x512x8x64_S16x8x512x512_S16x8x64x512_1_3_3_2_02_01 none (padded w v) (weights w n q k)) transposes_S16x8x64x512_S16x512x8x64_0_3_1_2

/-- Where each padded row goes: to its token, or to the extra row. -/
def dest : IVec S8192 32 :=
  shapeCast S8192 (select (mask w) (flat w) (broadcastInDim S16x512 ![] bcast_S_S16x512 (id (constantI S_ 32 4096#32)))) shapeCasts_S16x512_S8192
def sidx : IVec S8192x1 32 := broadcastInDim S8192x1 ![0] bcast_S8192_S8192x1_0
  (select (cmpi .slt (dest w) (broadcastInDim S8192 ![] bcast_S_S8192 (constantI S_ 32 0#32)))
    (addi (dest w) (broadcastInDim S8192 ![] bcast_S_S8192 (constantI S_ 32 4097#32))) (dest w))

/-- The result. -/
def result (q k v : S4096x8x64.Idx → EReal) : S4096x8x64.Idx → EReal :=
  extractStridedSlice S4096x8x64 ![0, 0, 0]
    (Host.scatter scatter_S4097x8x64_S8192x1_S8192x8x64_12_0_0_1 (fun _ b => b)
      (broadcastInDim S4097x8x64 ![] bcast_S_S4097x8x64 (constant (F := Ideal) S_ .f32 0x00000000#32)) (sidx w)
      (shapeCast S8192x8x64 (outp w n q k v) shapeCasts_S16x512x8x64_S8192x8x64)) slices_S4097x8x64_S4096x8x64_0_0_0

/-- What the run leaves is that result of the arguments. -/
theorem res_eq (m : (ℓ : Loc nD τ sig) → Buf (Elt Ideal) ℓ) (c : Dev nD) :
    Value.res_main_v100 m c = result (m ((c.tc : Thread nD τ).loc main_arg3)) (m ((c.tc : Thread nD τ).loc main_arg4))
      (m ((c.tc : Thread nD τ).loc main_arg0)) (m ((c.tc : Thread nD τ).loc main_arg1)) (m ((c.tc : Thread nD τ).loc main_arg2)) := by
  unfold Value.res_main_v100
  rfl

end Cert.ReferenceIdeal.Body
end
-- ==== Proof.Reference.Scatter.lean ====
/- The reference's way back from the padded rows to the tokens: a row is written at most once. -/
module

public import proofs.«01_k».proof.Proof.Reference.Stages
public import Idealize.ShloMosaic.Lib.Routing.OpsPair
public import Idealize.ShloMosaic.Lib.Pointwise

@[expose] public section

set_option maxRecDepth 16384

noncomputable section

namespace Cert.ReferenceIdeal.Body

open Cert.ReferenceIdeal Cert.ReferenceIdeal.Gen Idealize.ShloMosaic Idealize.ShloMosaic.TcCoe Idealize.SL.Sem

/-- A run of writes none of which is to the place leaves it; -/
theorem fold_none {α β : Type} (P : β → Prop) [DecidablePred P] (u : β → α) (l : List β) (a : α) (h : ∀ n ∈ l, ¬ P n) :
    l.foldl (fun a n => if P n then u n else a) a = a := by
  induction l generalizing a with
  | nil => rfl
  | cons x l ih =>
    rw [List.foldl_cons, if_neg (h x (by simp))]
    exact ih a fun n hn => h n (by simp [hn])

/-- one of which is leaves that one's value. -/
theorem fold_one {α β : Type} (P : β → Prop) [DecidablePred P] (u : β → α) (l : List β) (a : α) (n₀ : β) (h₀ : n₀ ∈ l) (hP : P n₀)
    (h : ∀ n ∈ l, P n → n = n₀) : l.foldl (fun a n => if P n then u n else a) a = u n₀ := by
  induction l generalizing a with
  | nil => simp at h₀
  | cons x l ih =>
    rw [List.foldl_cons]
    by_cases hl : n₀ ∈ l
    · exact ih _ hl fun n hn => h n (by simp [hn])
    · have hx : n₀ = x := by
        rcases List.mem_cons.mp h₀ with e | e
        · exact e
        · exact absurd e hl
      subst hx
      rw [if_pos hP]
      exact fold_none P u l _ fun n hn hp => hl (h n (by simp [hn]) hp ▸ hn)

/-- Row `i` of the updates lands where its word says. -/
theorem lands (idx : IVec S8192x1 32) (i : Fin 8192) (h : Fin 8) (d : Fin 64) (t : Fin 4097) (h' : Fin 8) (d' : Fin 64) :
    scatter_S4097x8x64_S8192x1_S8192x8x64_12_0_0_1.resultIdx? (ix3 i h d) idx = some (ix3 t h' d')
      ↔ (idx (ix2 i 0)).toInt = t.val ∧ h = h' ∧ d = d' := by
  rw [Routing.resultIdx?_eq_some]
  have s0 : scatter_S4097x8x64_S8192x1_S8192x8x64_12_0_0_1.start (ix3 i h d) idx (0 : Fin 3) = (idx (ix2 i 0)).toInt := by
    refine (dif_pos (by decide)).trans ?_
    congr 2
    funext a
    match a with
    | ⟨0, _⟩ => rfl
    | ⟨1, _⟩ => rfl
  have s1 : scatter_S4097x8x64_S8192x1_S8192x8x64_12_0_0_1.start (ix3 i h d) idx (1 : Fin 3) = 0 := dif_neg (by decide)
  have s2 : scatter_S4097x8x64_S8192x1_S8192x8x64_12_0_0_1.start (ix3 i h d) idx (2 : Fin 3) = 0 := dif_neg (by decide)
  have w0 : scatter_S4097x8x64_S8192x1_S8192x8x64_12_0_0_1.window (ix3 i h d) (0 : Fin 3) = 0 := dif_neg (by decide)
  have w1 : scatter_S4097x8x64_S8192x1_S8192x8x64_12_0_0_1.window (ix3 i h d) (1 : Fin 3) = h.val := (dif_pos (by decide)).trans rfl
  have w2 : scatter_S4097x8x64_S8192x1_S8192x8x64_12_0_0_1.window (ix3 i h d) (2 : Fin 3) = d.val := (dif_pos (by decide)).trans rfl
  constructor
  · intro H
    have e0 := H (0 : Fin 3)
    have e1 := H (1 : Fin 3)
    have e2 := H (2 : Fin 3)
    rw [s0, w0] at e0
    rw [s1, w1] at e1
    rw [s2, w2] at e2
    have c0 : ((ix3 t h' d' : S4097x8x64.Idx) (0 : Fin 3)).val = t.val := rfl
    have c1 : ((ix3 t h' d' : S4097x8x64.Idx) (1 : Fin 3)).val = h'.val := rfl
    have c2 : ((ix3 t h' d' : S4097x8x64.Idx) (2 : Fin 3)).val = d'.val := rfl
    rw [c0] at e0; rw [c1] at e1; rw [c2] at e2
    exact ⟨by omega, Fin.ext (by omega), Fin.ext (by omega)⟩
  · rintro ⟨e0, rfl, rfl⟩ a
    match a with
    | ⟨0, _⟩ =>
      show scatter_S4097x8x64_S8192x1_S8192x8x64_12_0_0_1.start (ix3 i h d) idx (0 : Fin 3) + ((scatter_S4097x8x64_S8192x1_S8192x8x64_12_0_0_1.window (ix3 i h d) (0 : Fin 3) : ℕ) : ℤ) = (t.val : ℤ)
      rw [s0, w0, e0]; rfl
    | ⟨1, _⟩ =>
      show scatter_S4097x8x64_S8192x1_S8192x8x64_12_0_0_1.start (ix3 i h d) idx (1 : Fin 3) + ((scatter_S4097x8x64_S8192x1_S8192x8x64_12_0_0_1.window (ix3 i h d) (1 : Fin 3) : ℕ) : ℤ) = (h.val : ℤ)
      rw [s1, w1]; omega
    | ⟨2, _⟩ =>
      show scatter_S4097x8x64_S8192x1_S8192x8x64_12_0_0_1.start (ix3 i h d) idx (2 : Fin 3) + ((scatter_S4097x8x64_S8192x1_S8192x8x64_12_0_0_1.window (ix3 i h d) (2 : Fin 3) : ℕ) : ℤ) = (d.val : ℤ)
      rw [s2, w2]; omega

/-- A token to which no row goes keeps what was there. -/
theorem scatter_none (x0 : S4097x8x64.Idx → EReal) (idx : IVec S8192x1 32) (upd : S8192x8x64.Idx → EReal) (t : Fin 4097) (h : Fin 8) (d : Fin 64)
    (hn : ∀ i : Fin 8192, (idx (ix2 i 0)).toInt ≠ t.val) :
    Host.scatter scatter_S4097x8x64_S8192x1_S8192x8x64_12_0_0_1 (fun _ b => b) x0 idx upd (ix3 t h d) = x0 (ix3 t h d) := by
  rw [Routing.scatter_at]
  refine fold_none _ _ _ _ fun n _ => ?_
  rw [eq_ix3 (S8192x8x64.rowMajor.symm n)]
  exact fun hh => hn _ ((lands _ _ _ _ _ _ _).mp hh).1

/-- A token to which one row goes has that row. -/
theorem scatter_one (x0 : S4097x8x64.Idx → EReal) (idx : IVec S8192x1 32) (upd : S8192x8x64.Idx → EReal) (t : Fin 4097) (h : Fin 8) (d : Fin 64)
    (i₀ : Fin 8192) (h₀ : (idx (ix2 i₀ 0)).toInt = t.val) (hu : ∀ i : Fin 8192, (idx (ix2 i 0)).toInt = t.val → i = i₀) :
    Host.scatter scatter_S4097x8x64_S8192x1_S8192x8x64_12_0_0_1 (fun _ b => b) x0 idx upd (ix3 t h d) = upd (ix3 i₀ h d) := by
  rw [Routing.scatter_at]
  refine (fold_one _ (fun n => upd (S8192x8x64.rowMajor.symm n)) _ _ (S8192x8x64.rowMajor (ix3 i₀ h d)) (List.mem_finRange _) ?_ fun n _ => ?_).trans ?_
  · rw [Equiv.symm_apply_apply]
    exact (lands _ _ _ _ _ _ _).mpr ⟨h₀, rfl, rfl⟩
  · intro hh
    rw [eq_ix3 (S8192x8x64.rowMajor.symm n)] at hh
    obtain ⟨e, eh, ed⟩ := (lands _ _ _ _ _ _ _).mp hh
    rw [← Equiv.symm_apply_eq, eq_ix3 (S8192x8x64.rowMajor.symm n), hu _ e, eh, ed]
  · exact congrArg upd (Equiv.symm_apply_apply _ _)

end Cert.ReferenceIdeal.Body
end
-- ==== Proof.Reference.Value.lean ====
/- The reference's stages read at an index: the padded rows, which place attends to which, and the result of a token. -/
module

public import proofs.«01_k».proof.Proof.Attend
public import proofs.«01_k».proof.Proof.Reference.Scatter

@[expose] public section

set_option maxRecDepth 16384

noncomputable section

namespace Cert.ReferenceIdeal.Body

open Cert.ReferenceIdeal Cert.ReferenceIdeal.Gen Cert.Tokens Idealize.ShloMosaic Idealize.ShloMosaic.TcCoe Idealize.SL.Sem

variable (w : S17.Idx → BitVec 32) (n : S16.Idx → BitVec 32)

/-- The tables by position. -/
abbrev wF : Fin 17 → BitVec 32 := fun b => w (ix1 b)
abbrev nF : Fin 16 → BitVec 32 := fun b => n (ix1 b)

/-! ## Positions and offsets -/

theorem pos_at (b : Fin 16) (y : Fin 512) : pos (ix2 b y) = BitVec.ofNat 32 y.val := by
  pointwise [pos]

theorem along_at (u : IVec S16 32) (b : Fin 16) (y : Fin 512) : along u (ix2 b y) = u (ix1 b) := by
  pointwise [along]

theorem offs_at (b : Fin 16) : offs w (ix1 b) = wF w b.castSucc := by
  pointwise [offs]
  rfl

theorem lens_at (b : Fin 16) : lens w (ix1 b) = Scalar.subi (wF w b.succ) (wF w b.castSucc) := by
  pointwise [lens, offs]
  rw [show (⟨1 + b.val, by omega⟩ : Fin 17) = b.succ from Fin.ext (by show 1 + b.val = b.val + 1; omega)]
  rfl

/-- The token of a place. -/
def tok (b : Fin 16) (y : ℕ) : ℕ := (wF w b.castSucc).toNat + y

variable {w}

/-- A place holds a token if that is one of its row's sequence. -/
theorem mask_at (hR : Rag (wF w)) (b : Fin 16) (y : Fin 512) :
    mask w (ix2 b y) = BitVec.ofBool (decide ((tok w b y) < (wF w b.succ).toNat)) := by
  show IntOp.cmpi .slt (pos (ix2 b y)) (along (lens w) (ix2 b y)) = _
  rw [pos_at, along_at, lens_at]
  show BitVec.ofBool ((BitVec.ofNat 32 y.val).slt (wF w b.succ - wF w b.castSucc)) = _
  have h1 := hR.step b
  have h2 := hR.top b.succ
  have e : (wF w b.succ - wF w b.castSucc).toNat = (wF w b.succ).toNat - (wF w b.castSucc).toNat := by
    rw [BitVec.toNat_sub]; omega
  have ey : (BitVec.ofNat 32 y.val).toNat = y.val := by rw [BitVec.toNat_ofNat]; omega
  rw [slt_iff (by omega) (by omega), e, ey]
  congr 1
  unfold tok
  exact decide_eq_decide.mpr (by omega)

/-- The place's token as a word. -/
theorem flat_at (hR : Rag (wF w)) (b : Fin 16) (y : Fin 512) : (flat w (ix2 b y)).toNat = tok w b y := by
  show (IntOp.addi (along (offs w) (ix2 b y)) (pos (ix2 b y))).toNat = _
  rw [pos_at, along_at, offs_at]
  show (wF w b.castSucc + BitVec.ofNat 32 y.val).toNat = _
  have := hR.top b.castSucc
  rw [BitVec.toNat_add, BitVec.toNat_ofNat]
  unfold tok
  omega

theorem clip_at (hR : Rag (wF w)) (b : Fin 16) (y : Fin 512) : (clip w (ix2 b y)).toNat = min (tok w b y) 4095 := by
  have hf := flat_at hR b y
  have := hR.top b.castSucc
  have hy : tok w b y ≤ 6656 := by unfold tok; omega
  have e : clip w (ix2 b y) = Scalar.minsi (flat w (ix2 b y)) 4095#32 := by pointwise [clip]; rfl
  rw [e]
  show (if (flat w (ix2 b y)).slt 4095#32 = true then flat w (ix2 b y) else 4095#32).toNat = _
  rw [slt_iff (by omega) (by decide)]
  by_cases h : (flat w (ix2 b y)).toNat < (4095#32 : BitVec 32).toNat
  · rw [if_pos (by simpa using h), hf]
    have : (4095#32 : BitVec 32).toNat = 4095 := rfl
    omega
  · rw [if_neg (by simpa using h)]
    have : (4095#32 : BitVec 32).toNat = 4095 := rfl
    omega

theorem gidx_at (hR : Rag (wF w)) (b : Fin 16) (y : Fin 512) : (gidx w (ix3 b y 0)).toInt = (min (tok w b y) 4095 : ℕ) := by
  have hc := clip_at hR b y
  have e : gidx w (ix3 b y 0) = clip w (ix2 b y) := by
    pointwise [gidx]
    have : IntOp.cmpi CmpIPredicate.slt (clip w (ix2 b y)) 0#32 = 0#1 := by
      show BitVec.ofBool ((clip w (ix2 b y)).slt 0#32) = _
      rw [slt_iff (by omega) (by decide)]
      simp
    rw [this]
    rfl
  rw [e, BitVec.toInt_eq_toNat_of_lt (by omega), hc]

/-- The gather reads the row of the index's word. -/
theorem gather_at (x : S4096x8x64.Idx → EReal) (idx : IVec S16x512x1 32) (b : Fin 16) (y : Fin 512) (h : Fin 8) (e : Fin 64) :
    Host.gather gather_S4096x8x64_S16x512x1_S16x512x8x64_23_0_n_n_0_2_1864 x idx (ix4 b y h e)
      = row x (idx (ix3 b y 0)).toInt.toNat h e := by
  show x _ = x _
  congr 1
  funext a
  apply Fin.ext
  match a with
  | ⟨0, _⟩ =>
    have hm : (0 : Fin 3) ∈ gather_S4096x8x64_S16x512x1_S16x512x8x64_23_0_n_n_0_2_1864.startIndexMap := by decide
    show gather_S4096x8x64_S16x512x1_S16x512x8x64_23_0_n_n_0_2_1864.start (ix4 b y h e) idx (0 : Fin 3) = min (idx (ix3 b y 0)).toInt.toNat 4095
    unfold GatherDims.start
    rw [dif_pos hm]
    show min (idx _).toInt.toNat 4095 = _
    congr 4
    funext a
    match a with
    | ⟨0, _⟩ => rfl
    | ⟨1, _⟩ => rfl
    | ⟨2, _⟩ => rfl
  | ⟨1, _⟩ => show 0 + 0 + h.val = h.val; omega
  | ⟨2, _⟩ => show 0 + 0 + e.val = e.val; omega

/-- A padded row: its token's, or zero past the sequence. -/
theorem padded_at (hR : Rag (wF w)) (x : S4096x8x64.Idx → EReal) (b : Fin 16) (y : Fin 512) (h : Fin 8) (e : Fin 64) :
    padded w x (ix4 b y h e) = if tok w b y < (wF w b.succ).toNat then row x (tok w b y) h e else 0 := by
  pointwise [padded]
  rw [gather_at, gidx_at hR, mask_at hR]
  have hu (p : Bool) : FloatOps.uitofp (F := Ideal) FTy.f32 (BitVec.ofBool p) = (((BitVec.ofBool p).toNat : ℝ) : EReal) := rfl
  rw [hu]
  by_cases hh : tok w b y < (wF w b.succ).toNat
  · rw [if_pos hh, decide_eq_true hh]
    rw [show (((BitVec.ofBool true).toNat : ℝ) : EReal) = 1 from by simp, mul_one, Int.toNat_natCast, row_clip]
  · rw [if_neg hh, decide_eq_false hh]
    rw [show (((BitVec.ofBool false).toNat : ℝ) : EReal) = 0 from by simp, mul_zero]

/-- Scores of places that hold tokens. -/
theorem scores_at (hR : Rag (wF w)) (q k : S4096x8x64.Idx → EReal) (b : Fin 16) (h : Fin 8) (x y : Fin 512)
    (hx : tok w b x < (wF w b.succ).toNat) (hy : tok w b y < (wF w b.succ).toNat) :
    scores w q k (ix4 b h x y) = score q k (tok w b x) (tok w b y) h := by
  pointwise [scores]
  unfold score
  congr 1
  refine Finset.sum_congr rfl fun e _ => ?_
  rw [padded_at hR, padded_at hR, if_pos hx, if_pos hy]

/-! ## Which place attends to which -/

theorem ids_at (b : Fin 16) (y : Fin 512) : ids w n (ix2 b y)
    = Scalar.minsi (BitVec.ofNat 32 y.val) (Scalar.subi (Scalar.subi (wF w b.succ) (wF w b.castSucc)) (nF n b)) := by
  show IntOp.minsi (pos (ix2 b y)) (along (subi (lens w) n) (ix2 b y)) = _
  rw [pos_at, along_at]
  show IntOp.minsi _ (IntOp.subi (lens w (ix1 b)) (n (ix1 b))) = _
  rw [lens_at]
  rfl

theorem ident_tok (b : Fin 16) (y : Fin 512) : ident (wF w) (nF n) b (tok w b y) = ids w n (ix2 b y) := by
  rw [ids_at]
  unfold ident tok
  congr 1
  show BitVec.ofNat 32 ((wF w b.castSucc).toNat + y.val) - wF w b.castSucc = BitVec.ofNat 32 y.val
  rw [BitVec.ofNat_add, BitVec.ofNat_toNat, BitVec.setWidth_eq]
  rw [BitVec.add_comm, BitVec.add_sub_cancel]

/-- The difference of two identifiers is positive exactly when the first is the greater: they do not wrap. -/
theorem diff_pos (a c m : BitVec 32) (ha : a.toNat < 512) (hc : c.toNat < 512) :
    IntOp.cmpi .sgt (IntOp.subi (Scalar.minsi a m) (Scalar.minsi c m)) 0#32 = BitVec.ofBool ((Scalar.minsi c m).slt (Scalar.minsi a m)) := by
  show BitVec.ofBool ((0#32 : BitVec 32).slt (Scalar.minsi a m - Scalar.minsi c m)) = _
  congr 1
  have hA := toInt_minsi a m
  have hC := toInt_minsi c m
  have ea : a.toInt = a.toNat := BitVec.toInt_eq_toNat_of_lt (by omega)
  have ec : c.toInt = c.toNat := BitVec.toInt_eq_toNat_of_lt (by omega)
  rw [ea] at hA
  rw [ec] at hC
  rw [BitVec.slt_eq_decide, BitVec.slt_eq_decide]
  refine decide_eq_decide.mpr ?_
  rw [BitVec.toInt_sub, hA, hC]
  have hz : (0#32 : BitVec 32).toInt = 0 := rfl
  rw [hz]
  have hb : ((min (a.toNat : ℤ) m.toInt) - (min (c.toNat : ℤ) m.toInt)).bmod (2 ^ 32) = (min (a.toNat : ℤ) m.toInt) - (min (c.toNat : ℤ) m.toInt) := by
    apply Int.bmod_eq_of_le <;> omega
  rw [hb]
  omega

open Classical in
theorem valid_at (hR : Rag (wF w)) (b : Fin 16) (x y : Fin 512) (hx : tok w b x < (wF w b.succ).toNat) :
    valid w n (ix3 b x y) = BitVec.ofBool (decide (inSeq (wF w) b (tok w b y) ∧ sees (wF w) (nF n) b (tok w b x) (tok w b y))) := by
  have hin : inSeq (wF w) b (tok w b y) ↔ tok w b y < (wF w b.succ).toNat := ⟨fun h => h.2, fun h => ⟨Nat.le_add_right _ _, h⟩⟩
  have he : IntOp.cmpi CmpIPredicate.eq (IntOp.addi (BitVec.ofNat 32 x.val) 0#32) (BitVec.ofNat 32 y.val) = BitVec.ofBool (decide (y.val = x.val)) := by
    show BitVec.ofBool (BitVec.ofNat 32 x.val + 0#32 == BitVec.ofNat 32 y.val) = _
    congr 1
    rw [BitVec.add_zero]
    by_cases h : y.val = x.val
    · rw [h]; simp
    · rw [decide_eq_false h, beq_eq_false_iff_ne]
      intro hh
      have := congrArg BitVec.toNat hh
      rw [BitVec.toNat_ofNat, BitVec.toNat_ofNat] at this
      omega
  pointwise [valid]
  rw [he, mask_at hR, mask_at hR, decide_eq_true hx, ids_at, ids_at,
    diff_pos _ _ _ (by rw [BitVec.toNat_ofNat]; omega) (by rw [BitVec.toNat_ofNat]; omega), ← ids_at, ← ids_at, ← ident_tok, ← ident_tok]
  have ht : tok w b y = tok w b x ↔ y.val = x.val := by unfold tok; omega
  unfold sees
  rw [hin, ht]
  have key : ∀ p q r : Bool, IntOp.andi (IntOp.andi (IntOp.ori (BitVec.ofBool p) (BitVec.ofBool q)) (BitVec.ofBool r)) (BitVec.ofBool true)
      = BitVec.ofBool (r && (q || p)) := by decide
  rw [key]
  congr 1
  rw [Bool.eq_iff_iff]
  simp only [Bool.and_eq_true, Bool.or_eq_true, decide_eq_true_eq]
  tauto

/-! ## The result -/

open Classical in
/-- A padded row of the result, of a place that holds a token. -/
theorem outp_at (hR : Rag (wF w)) (q k v : S4096x8x64.Idx → EReal) (b : Fin 16) (x : Fin 512) (h : Fin 8) (d : Fin 64)
    (hx : tok w b x < (wF w b.succ).toNat) :
    outp w n q k v (ix4 b x h d)
      = ∑ s ∈ Finset.Ico (wF w b.castSucc).toNat (tok w b x + 1), part q k v (wF w) (nF n) b (tok w b x) h d s := by
  have hst := (hR.step b).2
  have hb : (wF w b.castSucc).toNat ≤ tok w b x := Nat.le_add_right _ _
  pointwise [outp]
  rw [← sum_span (part q k v (wF w) (nF n) b (tok w b x) h d) (wF w b.castSucc).toNat 512 _ (tok w b x + 1) le_rfl (by omega)
    (part_outside hR q k v (nF n) b (tok w b x) h d ⟨hb, hx⟩)]
  refine Finset.sum_congr rfl fun y _ => ?_
  show padded w v (ix4 b y h d) * weights w n q k (ix4 b h x y) = part q k v (wF w) (nF n) b (tok w b x) h d (tok w b y)
  have hu (p : Bool) : FloatOps.uitofp (F := Ideal) FTy.f32 (BitVec.ofBool p) = (((BitVec.ofBool p).toNat : ℝ) : EReal) := rfl
  have hw : weights w n q k (ix4 b h x y) = Ideal.div (scores w q k (ix4 b h x y) * Ideal.div 1 (1 + Ideal.exp (-scores w q k (ix4 b h x y))))
        (Ideal.ofBits FTy.f32 0x44000000#32) * FloatOps.uitofp (F := Ideal) FTy.f32 (valid w n (ix3 b x y)) := by pointwise [weights]
  rw [hw, valid_at n hR b x y hx, hu, padded_at hR, div_length]
  unfold part
  by_cases hv : inSeq (wF w) b (tok w b y) ∧ sees (wF w) (nF n) b (tok w b x) (tok w b y)
  · rw [if_pos hv, decide_eq_true hv, if_pos hv.1.2, scores_at hR q k b h x y hx hv.1.2]
    rw [show (((BitVec.ofBool true).toNat : ℝ) : EReal) = 1 from by simp, mul_one, mul_comm]
    rfl
  · rw [if_neg hv, decide_eq_false hv]
    rw [show (((BitVec.ofBool false).toNat : ℝ) : EReal) = 0 from by simp, mul_zero, mul_zero]

/-- Where padded row `i` goes. -/
theorem sidx_at (hR : Rag (wF w)) (b : Fin 16) (y : Fin 512) (i : Fin 8192) (hi : i.val = 512 * b.val + y.val) :
    (sidx w (ix2 i 0)).toInt = ((if tok w b y < (wF w b.succ).toNat then tok w b y else 4096 : ℕ) : ℤ) := by
  have hf := flat_at hR b y
  have := hR.top b.castSucc
  have hy : tok w b y ≤ 6656 := by unfold tok; omega
  have ed : (dest w (ix1 i)).toNat = if tok w b y < (wF w b.succ).toNat then tok w b y else 4096 := by
    pointwise [dest]
    rw [show (⟨i.val / 512, by omega⟩ : Fin 16) = b from Fin.ext (by show i.val / 512 = b.val; omega),
      show (⟨i.val % 512, by omega⟩ : Fin 512) = y from Fin.ext (by show i.val % 512 = y.val; omega), mask_at hR]
    by_cases h : tok w b y < (wF w b.succ).toNat
    · rw [decide_eq_true h, if_pos h]
      exact hf
    · rw [decide_eq_false h, if_neg h]
      rfl
  have hd : (dest w (ix1 i)).toNat < 2 ^ 31 := by rw [ed]; split <;> omega
  have e : sidx w (ix2 i 0) = dest w (ix1 i) := by
    pointwise [sidx]
    have : IntOp.cmpi CmpIPredicate.slt (dest w (ix1 i)) 0#32 = 0#1 := by
      show BitVec.ofBool ((dest w (ix1 i)).slt 0#32) = _
      rw [slt_iff hd (by decide)]
      simp
    rw [this]
    rfl
  rw [e, BitVec.toInt_eq_toNat_of_lt (by omega), ed]

/-- Every padded row is a place of a sequence. -/
theorem split_row (i : Fin 8192) : ∃ (b : Fin 16) (y : Fin 512), i.val = 512 * b.val + y.val :=
  ⟨⟨i.val / 512, by omega⟩, ⟨i.val % 512, by omega⟩, by show i.val = 512 * (i.val / 512) + i.val % 512; omega⟩

/-- A token past the last sequence has zero. -/
theorem result_past (hR : Rag (wF w)) (q k v : S4096x8x64.Idx → EReal) (t : Fin 4096) (h : Fin 8) (d : Fin 64) (ht : (wF w 16).toNat ≤ t.val) :
    result w n q k v (ix3 t h d) = 0 := by
  pointwise [result]
  refine (scatter_none _ _ _ _ h d fun i => ?_).trans ?_
  · obtain ⟨b, y, hi⟩ := split_row i
    rw [sidx_at hR b y i hi]
    have := hR.mono b.succ 16 (Fin.le_last _)
    have ht := t.isLt
    split
    · intro e
      have e : tok w b y = t.val := by exact_mod_cast e
      omega
    · intro e
      have e : 4096 = t.val := by exact_mod_cast e
      omega
  · pointwise

/-- A token of a sequence has the sum over its sequence. -/
theorem result_in (hR : Rag (wF w)) (q k v : S4096x8x64.Idx → EReal) (t : Fin 4096) (h : Fin 8) (d : Fin 64) (b : Fin 16) (ht : inSeq (wF w) b t.val) :
    result w n q k v (ix3 t h d)
      = ∑ s ∈ Finset.Ico (wF w b.castSucc).toNat (t.val + 1), part q k v (wF w) (nF n) b t.val h d s := by
  obtain ⟨h1, h2⟩ := ht
  have hst := (hR.step b).2
  let x : Fin 512 := ⟨t.val - (wF w b.castSucc).toNat, by omega⟩
  have hx : tok w b x = t.val := by show (wF w b.castSucc).toNat + (t.val - (wF w b.castSucc).toNat) = _; omega
  pointwise [result]
  refine (scatter_one _ _ _ _ h d (⟨512 * b.val + x.val, by omega⟩ : Fin 8192) ?_ fun i => ?_).trans ?_
  · rw [sidx_at hR b x _ rfl, hx, if_pos h2]
  · obtain ⟨b', y, hi⟩ := split_row i
    rw [sidx_at hR b' y i hi]
    have ht := t.isLt
    split
    · next hy =>
      intro e
      have e : tok w b' y = t.val := by exact_mod_cast e
      have hb : b' = b := by
        rcases lt_trichotomy b' b with hl | hl | hl
        · have := hR.mono b'.succ b.castSucc (by rw [Fin.le_def, Fin.val_succ, Fin.val_castSucc]; exact hl)
          omega
        · exact hl
        · have := hR.mono b.succ b'.castSucc (by rw [Fin.le_def, Fin.val_succ, Fin.val_castSucc]; exact hl)
          have : (wF w b'.castSucc).toNat ≤ tok w b' y := Nat.le_add_right _ _
          omega
      subst hb
      apply Fin.ext
      rw [hi]
      show _ = 512 * b'.val + (t.val - (wF w b'.castSucc).toNat)
      unfold tok at e
      omega
    · intro e
      have e : 4096 = t.val := by exact_mod_cast e
      omega
  · pointwise
    rw [outp_at n hR q k v b x h d (by rw [hx]; exact h2), hx]

end Cert.ReferenceIdeal.Body
end
-- ==== Proof.Agree.lean ====
/- The kernel's result is the reference's. -/
module

public import proofs.«01_k».proof.Proof.KernelIdeal.Value
public import proofs.«01_k».proof.Proof.Reference.Value

@[expose] public section

noncomputable section

namespace Cert.Agree

open Cert.Tokens Cert.KernelIdeal.Body Idealize.ShloMosaic Idealize.ShloMosaic.TcCoe

variable (m : (ℓ : Loc Cert.KernelIdeal.nD Cert.KernelIdeal.τ Cert.KernelIdeal.sig) → Buf (Elt Ideal) ℓ) (c : Dev Cert.KernelIdeal.nD)

/-- The tables as the two sides read them. -/
theorem offsets_eq : wd c (Tof m c) = Cert.ReferenceIdeal.Body.wF (m ((c.tc : Thread Cert.KernelIdeal.nD Cert.KernelIdeal.τ).loc Cert.KernelIdeal.main_arg3)) :=
  funext fun k => wd_eq c (Tof m c) k
theorem targets_eq : wdN c (Nof m c) = Cert.ReferenceIdeal.Body.nF (m ((c.tc : Thread Cert.KernelIdeal.nD Cert.KernelIdeal.τ).loc Cert.KernelIdeal.main_arg4)) :=
  funext fun k => wdN_eq c (Nof m c) k

/-- Token by token: past the last sequence both are zero, in a sequence both are the sum over it. -/
theorem value_eq (hR : Rag (wd c (Tof m c))) : outArr m c
    = Cert.ReferenceIdeal.Body.result (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (qA c m) (kA c m) (vA c m) := by
  funext x
  obtain ⟨t, h, d, rfl⟩ : ∃ (t : Fin 4096) (h : Fin 8) (d : Fin 64), x = ix3 t h d :=
    ⟨x 0, x 1, x 2, funext fun a => match a with | ⟨0, _⟩ => rfl | ⟨1, _⟩ => rfl | ⟨2, _⟩ => rfl⟩
  have hR' := hR
  rw [offsets_eq] at hR'
  rcases in_or_past hR t.val with ⟨b, hb⟩ | hp
  · have hb' := hb
    rw [offsets_eq] at hb'
    refine (out_in c m hR t h d b hb).trans ?_
    rw [offsets_eq, targets_eq]
    exact (Cert.ReferenceIdeal.Body.result_in _ hR' _ _ _ t h d b hb').symm
  · have hp' := hp
    rw [offsets_eq] at hp'
    exact (out_past c m hR t h d hp).trans (Cert.ReferenceIdeal.Body.result_past _ hR' _ _ _ t h d hp').symm

end Cert.Agree
end
-- ==== Proof.lean ====
/- What is proved of the ragged attention kernel: its frames, those of its idealization and of the reference, that the
   idealization changes no operation, and that at exact numbers the kernel's result is the reference's. The run of the
   kernel is in Proof/Kernel (at any float instance) and Proof/KernelIdeal (the same text for the idealized program),
   what the precondition says of the offsets in Proof/Ragged, the value both sides have in Proof/Attend, and the two
   halves of the equation in Proof/KernelIdeal/Value and Proof/Reference/Value, joined in Proof/Agree. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ragged
public import proofs.«01_k».proof.Proof.Gen.ReferenceIdeal.Run
public import proofs.«01_k».proof.Proof.Kernel.Result
public import proofs.«01_k».proof.Proof.KernelIdeal.Result
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- From ragged offsets the kernel ends, its arguments unchanged and its counters at zero. -/
theorem kernel_frame : Cert.quiescent_Kernel (hKernel := Cert.Kernel.Gen.facts)
    (hPre_ragged := Cert.Pre_ragged.Gen.facts) := fun m g h =>
  (θ_run _ _ _).mono (fun r hr => ⟨Cert.Kernel.Body.args_kept m r hr.1, hr.2⟩)
    (Cert.Kernel.Body.run_main m (Cert.Kernel.Body.rag_entry m h) g)

/-- The same of the idealized kernel. -/
theorem kernelIdeal_frame : Cert.quiescent_KernelIdeal (hKernelIdeal := Cert.KernelIdeal.Gen.facts)
    (hPre_ragged := Cert.Pre_ragged.Gen.facts) := fun m g h =>
  (θ_run _ _ _).mono (fun r hr => ⟨Cert.KernelIdeal.Body.args_kept m r hr.1, hr.2⟩)
    (Cert.KernelIdeal.Body.run_main m (Cert.KernelIdeal.Body.rag_entry m h) g)

/-- The reference ends from any memory, its arguments unchanged; it has no semaphores. -/
theorem reference_frame : Cert.quiescent_ReferenceIdeal (hReferenceIdeal := Cert.ReferenceIdeal.Gen.facts) :=
  fun m g _ => (θ_run _ _ _).mono (fun r hr => ⟨fun c => (hr c).2, sem_eq_zero_of_no_sems rfl _⟩)
    (Cert.ReferenceIdeal.Value.run m g)

/-- The same of the reference under the precondition, which it does not need. -/
theorem reference_frame_ragged : Cert.quiescent_ReferenceIdeal_pre_ragged (hReferenceIdeal := Cert.ReferenceIdeal.Gen.facts)
    (hPre_ragged := Cert.Pre_ragged.Gen.facts) :=
  fun m g _ => (θ_run _ _ _).mono (fun r hr => ⟨fun c => (hr c).2, sem_eq_zero_of_no_sems rfl _⟩)
    (Cert.ReferenceIdeal.Value.run m g)

/-- From ragged offsets and the same arguments the kernel and the reference end with the same result. -/
theorem algebraic : Cert.algebraic_KernelIdeal_ReferenceIdeal (hKernelIdeal := Cert.KernelIdeal.Gen.facts)
    (hReferenceIdeal := Cert.ReferenceIdeal.Gen.facts) (hPre_ragged := Cert.Pre_ragged.Gen.facts) := fun m g m' g' h ha => by
  have hR := Cert.KernelIdeal.Body.rag_entry m h
  refine ⟨fun c => Cert.KernelIdeal.Body.outArr m c, ?_, ?_⟩
  · exact (θ_run _ _ _).mono (fun r hr c => ⟨Cert.KernelIdeal.Body.out_eq m r hr.1 c, Cert.KernelIdeal.Body.args_kept m r hr.1 c⟩)
      (Cert.KernelIdeal.Body.run_main m hR g)
  · refine (θ_run _ _ _).mono (fun r hr c => ⟨(hr c).1.trans ?_, (hr c).2⟩) (Cert.ReferenceIdeal.Value.run m' g')
    obtain ⟨h0, h1, h2, h3, h4⟩ := ha c
    rw [Cert.ReferenceIdeal.Body.res_eq, h0, h1, h2, h3, h4]
    exact (Cert.Agree.value_eq m c (hR c)).symm

theorem claim : Cert.Claim := ⟨Cert.Kernel.Gen.facts, Cert.KernelIdeal.Gen.facts, Cert.ReferenceIdeal.Gen.facts, Cert.Pre_ragged.Gen.facts,
  kernel_frame, kernelIdeal_frame, reference_frame, reference_frame_ragged, trivial, algebraic⟩

end Cert.Proof

end
